-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 12288]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![12288, 768]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![24, 768]⟩ ⟨2, ![768, 768]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S24x768 : Shape := ⟨2, ![24, 768]⟩
abbrev S1536x384 : Shape := ⟨2, ![1536, 384]⟩
abbrev S768x768 : Shape := ⟨2, ![768, 768]⟩
abbrev S8x96x768 : Shape := ⟨3, ![8, 96, 768]⟩
abbrev S96x768 : Shape := ⟨2, ![96, 768]⟩
abbrev S4x24x768 : Shape := ⟨3, ![4, 24, 768]⟩
abbrev S8 : Shape := ⟨1, ![8]⟩
abbrev S4 : Shape := ⟨1, ![4]⟩
abbrev S_ : Shape := ⟨0, ![]⟩
abbrev S2x2x2x4x24x384 : Shape := ⟨6, ![2, 2, 2, 4, 24, 384]⟩
abbrev S2x4x2x2x24x384 : Shape := ⟨6, ![2, 4, 2, 2, 24, 384]⟩
abbrev S192x384 : Shape := ⟨2, ![192, 384]⟩
abbrev S192x768 : Shape := ⟨2, ![192, 768]⟩
abbrev S1x96x768 : Shape := ⟨3, ![1, 96, 768]⟩
abbrev S1 : Shape := ⟨1, ![1]⟩
abbrev S4x96x768 : Shape := ⟨3, ![4, 96, 768]⟩
abbrev S1x24x768 : Shape := ⟨3, ![1, 24, 768]⟩
abbrev S3x24x768 : Shape := ⟨3, ![3, 24, 768]⟩

abbrev nBuf : Space → Nat
  | .hbm => 3
  | .vmem => 10
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S24x768, .f32⟩
  | .local _ .vmem, ⟨0, _⟩ => ⟨S768x384, .f32⟩
  | .local _ .vmem, ⟨1, _⟩ => ⟨S384x768, .f32⟩
  | .local _ .vmem, ⟨2, _⟩ => ⟨S24x768, .f32⟩
  | .local _ .vmem, ⟨3, _⟩ => ⟨S1536x384, .bf16⟩
  | .local _ .vmem, ⟨4, _⟩ => ⟨S384x768, .bf16⟩
  | .local _ .vmem, ⟨5, _⟩ => ⟨S768x768, .bf16⟩
  | .local _ .vmem, ⟨6, _⟩ => ⟨S8x96x768, .bf16⟩
  | .local _ .vmem, ⟨7, _⟩ => ⟨S96x768, .f32⟩
  | .local _ .vmem, ⟨8, _⟩ => ⟨S96x768, .bf16⟩
  | .local _ .vmem, ⟨9, _⟩ => ⟨S4x24x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_7 : BitVec 32 := 2#32
  let v16 : BitVec 32 := Scalar.divsi v8 c2_i32_7
  let c2_i32_8 : BitVec 32 := 2#32
  let v17 : BitVec 32 := Scalar.muli v16 c2_i32_8
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c1_i32_5 : BitVec 32 := 1#32
  let v14 : BitVec 32 := Scalar.addi v12 c1_i32_5
  let c8_i32_6 : BitVec 32 := 8#32
  let v15 : BitVec 32 := Scalar.remsi v14 c8_i32_6
  let c4_i32_9 : BitVec 32 := 4#32
  let v18 : BitVec 32 := Scalar.divsi v15 c4_i32_9
  let v19 : BitVec 32 := Scalar.addi v17 v18
  let c8_i32_13 : BitVec 32 := 8#32
  let v24 : BitVec 32 := Scalar.muli v19 c8_i32_13
  let c2_i32_10 : BitVec 32 := 2#32
  let v20 : BitVec 32 := Scalar.remsi v8 c2_i32_10
  let c4_i32_11 : BitVec 32 := 4#32
  let v21 : BitVec 32 := Scalar.muli v20 c4_i32_11
  let c4_i32_12 : BitVec 32 := 4#32
  let v22 : BitVec 32 := Scalar.remsi v15 c4_i32_12
  let v23 : BitVec 32 := Scalar.addi v21 v22
  let v25 : BitVec 32 := Scalar.addi v24 v23
  let c1_i32_15 : BitVec 32 := 1#32
  let v26 : BitVec 32 := Scalar.muli v25 c1_i32_15
  let v27 : BitVec 32 := Scalar.addi c0_i32 v26
  v27.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_18 : BitVec 32 := 2#32
  let v30 : BitVec 32 := Scalar.divsi v8 c2_i32_18
  let c2_i32_19 : BitVec 32 := 2#32
  let v31 : BitVec 32 := Scalar.muli v30 c2_i32_19
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c2_i32_16 : BitVec 32 := 2#32
  let v28 : BitVec 32 := Scalar.addi v12 c2_i32_16
  let c8_i32_17 : BitVec 32 := 8#32
  let v29 : BitVec 32 := Scalar.remsi v28 c8_i32_17
  let c4_i32_20 : BitVec 32 := 4#32
  let v32 : BitVec 32 := Scalar.divsi v29 c4_i32_20
  let v33 : BitVec 32 := Scalar.addi v31 v32
  let c8_i32_24 : BitVec 32 := 8#32
  let v38 : BitVec 32 := Scalar.muli v33 c8_i32_24
  let c2_i32_21 : BitVec 32 := 2#32
  let v34 : BitVec 32 := Scalar.remsi v8 c2_i32_21
  let c4_i32_22 : BitVec 32 := 4#32
  let v35 : BitVec 32 := Scalar.muli v34 c4_i32_22
  let c4_i32_23 : BitVec 32 := 4#32
  let v36 : BitVec 32 := Scalar.remsi v29 c4_i32_23
  let v37 : BitVec 32 := Scalar.addi v35 v36
  let v39 : BitVec 32 := Scalar.addi v38 v37
  let c1_i32_26 : BitVec 32 := 1#32
  let v40 : BitVec 32 := Scalar.muli v39 c1_i32_26
  let v41 : BitVec 32 := Scalar.addi c0_i32_27 v40
  v41.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_29 : BitVec 32 := 2#32
  let v44 : BitVec 32 := Scalar.divsi v8 c2_i32_29
  let c2_i32_30 : BitVec 32 := 2#32
  let v45 : BitVec 32 := Scalar.muli v44 c2_i32_30
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c3_i32 : BitVec 32 := 3#32
  let v42 : BitVec 32 := Scalar.addi v12 c3_i32
  let c8_i32_28 : BitVec 32 := 8#32
  let v43 : BitVec 32 := Scalar.remsi v42 c8_i32_28
  let c4_i32_31 : BitVec 32 := 4#32
  let v46 : BitVec 32 := Scalar.divsi v43 c4_i32_31
  let v47 : BitVec 32 := Scalar.addi v45 v46
  let c8_i32_35 : BitVec 32 := 8#32
  let v52 : BitVec 32 := Scalar.muli v47 c8_i32_35
  let c2_i32_32 : BitVec 32 := 2#32
  let v48 : BitVec 32 := Scalar.remsi v8 c2_i32_32
  let c4_i32_33 : BitVec 32 := 4#32
  let v49 : BitVec 32 := Scalar.muli v48 c4_i32_33
  let c4_i32_34 : BitVec 32 := 4#32
  let v50 : BitVec 32 := Scalar.remsi v43 c4_i32_34
  let v51 : BitVec 32 := Scalar.addi v49 v50
  let v53 : BitVec 32 := Scalar.addi v52 v51
  let c1_i32_37 : BitVec 32 := 1#32
  let v54 : BitVec 32 := Scalar.muli v53 c1_i32_37
  let v55 : BitVec 32 := Scalar.addi c0_i32_38 v54
  v55.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_41 : BitVec 32 := 2#32
  let v58 : BitVec 32 := Scalar.divsi v8 c2_i32_41
  let c2_i32_42 : BitVec 32 := 2#32
  let v59 : BitVec 32 := Scalar.muli v58 c2_i32_42
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_39 : BitVec 32 := 4#32
  let v56 : BitVec 32 := Scalar.addi v12 c4_i32_39
  let c8_i32_40 : BitVec 32 := 8#32
  let v57 : BitVec 32 := Scalar.remsi v56 c8_i32_40
  let c4_i32_43 : BitVec 32 := 4#32
  let v60 : BitVec 32 := Scalar.divsi v57 c4_i32_43
  let v61 : BitVec 32 := Scalar.addi v59 v60
  let c8_i32_47 : BitVec 32 := 8#32
  let v66 : BitVec 32 := Scalar.muli v61 c8_i32_47
  let c2_i32_44 : BitVec 32 := 2#32
  let v62 : BitVec 32 := Scalar.remsi v8 c2_i32_44
  let c4_i32_45 : BitVec 32 := 4#32
  let v63 : BitVec 32 := Scalar.muli v62 c4_i32_45
  let c4_i32_46 : BitVec 32 := 4#32
  let v64 : BitVec 32 := Scalar.remsi v57 c4_i32_46
  let v65 : BitVec 32 := Scalar.addi v63 v64
  let v67 : BitVec 32 := Scalar.addi v66 v65
  let c1_i32_49 : BitVec 32 := 1#32
  let v68 : BitVec 32 := Scalar.muli v67 c1_i32_49
  let v69 : BitVec 32 := Scalar.addi c0_i32_50 v68
  v69.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_52 : BitVec 32 := 2#32
  let v72 : BitVec 32 := Scalar.divsi v8 c2_i32_52
  let c2_i32_53 : BitVec 32 := 2#32
  let v73 : BitVec 32 := Scalar.muli v72 c2_i32_53
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c5_i32 : BitVec 32 := 5#32
  let v70 : BitVec 32 := Scalar.addi v12 c5_i32
  let c8_i32_51 : BitVec 32 := 8#32
  let v71 : BitVec 32 := Scalar.remsi v70 c8_i32_51
  let c4_i32_54 : BitVec 32 := 4#32
  let v74 : BitVec 32 := Scalar.divsi v71 c4_i32_54
  let v75 : BitVec 32 := Scalar.addi v73 v74
  let c8_i32_58 : BitVec 32 := 8#32
  let v80 : BitVec 32 := Scalar.muli v75 c8_i32_58
  let c2_i32_55 : BitVec 32 := 2#32
  let v76 : BitVec 32 := Scalar.remsi v8 c2_i32_55
  let c4_i32_56 : BitVec 32 := 4#32
  let v77 : BitVec 32 := Scalar.muli v76 c4_i32_56
  let c4_i32_57 : BitVec 32 := 4#32
  let v78 : BitVec 32 := Scalar.remsi v71 c4_i32_57
  let v79 : BitVec 32 := Scalar.addi v77 v78
  let v81 : BitVec 32 := Scalar.addi v80 v79
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_63 : BitVec 32 := 2#32
  let v86 : BitVec 32 := Scalar.divsi v8 c2_i32_63
  let c2_i32_64 : BitVec 32 := 2#32
  let v87 : BitVec 32 := Scalar.muli v86 c2_i32_64
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c6_i32 : BitVec 32 := 6#32
  let v84 : BitVec 32 := Scalar.addi v12 c6_i32
  let c8_i32_62 : BitVec 32 := 8#32
  let v85 : BitVec 32 := Scalar.remsi v84 c8_i32_62
  let c4_i32_65 : BitVec 32 := 4#32
  let v88 : BitVec 32 := Scalar.divsi v85 c4_i32_65
  let v89 : BitVec 32 := Scalar.addi v87 v88
  let c8_i32_69 : BitVec 32 := 8#32
  let v94 : BitVec 32 := Scalar.muli v89 c8_i32_69
  let c2_i32_66 : BitVec 32 := 2#32
  let v90 : BitVec 32 := Scalar.remsi v8 c2_i32_66
  let c4_i32_67 : BitVec 32 := 4#32
  let v91 : BitVec 32 := Scalar.muli v90 c4_i32_67
  let c4_i32_68 : BitVec 32 := 4#32
  let v92 : BitVec 32 := Scalar.remsi v85 c4_i32_68
  let v93 : BitVec 32 := Scalar.addi v91 v92
  let v95 : BitVec 32 := Scalar.addi v94 v93
  let c1_i32_71 : BitVec 32 := 1#32
  let v96 : BitVec 32 := Scalar.muli v95 c1_i32_71
  let v97 : BitVec 32 := Scalar.addi c0_i32_72 v96
  v97.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_74 : BitVec 32 := 2#32
  let v100 : BitVec 32 := Scalar.divsi v8 c2_i32_74
  let c2_i32_75 : BitVec 32 := 2#32
  let v101 : BitVec 32 := Scalar.muli v100 c2_i32_75
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c7_i32 : BitVec 32 := 7#32
  let v98 : BitVec 32 := Scalar.addi v12 c7_i32
  let c8_i32_73 : BitVec 32 := 8#32
  let v99 : BitVec 32 := Scalar.remsi v98 c8_i32_73
  let c4_i32_76 : BitVec 32 := 4#32
  let v102 : BitVec 32 := Scalar.divsi v99 c4_i32_76
  let v103 : BitVec 32 := Scalar.addi v101 v102
  let c8_i32_80 : BitVec 32 := 8#32
  let v108 : BitVec 32 := Scalar.muli v103 c8_i32_80
  let c2_i32_77 : BitVec 32 := 2#32
  let v104 : BitVec 32 := Scalar.remsi v8 c2_i32_77
  let c4_i32_78 : BitVec 32 := 4#32
  let v105 : BitVec 32 := Scalar.muli v104 c4_i32_78
  let c4_i32_79 : BitVec 32 := 4#32
  let v106 : BitVec 32 := Scalar.remsi v99 c4_i32_79
  let v107 : BitVec 32 := Scalar.addi v105 v106
  let v109 : BitVec 32 := Scalar.addi v108 v107
  let c1_i32_82 : BitVec 32 := 1#32
  let v110 : BitVec 32 := Scalar.muli v109 c1_i32_82
  let v111 : BitVec 32 := Scalar.addi c0_i32_83 v110
  v111.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c1_i32_84 : BitVec 32 := 1#32
  let v112 : BitVec 32 := Scalar.addi v8 c1_i32_84
  let c4_i32_85 : BitVec 32 := 4#32
  let v113 : BitVec 32 := Scalar.remsi v112 c4_i32_85
  let c2_i32_86 : BitVec 32 := 2#32
  let v114 : BitVec 32 := Scalar.divsi v113 c2_i32_86
  let c2_i32_87 : BitVec 32 := 2#32
  let v115 : BitVec 32 := Scalar.muli v114 c2_i32_87
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_88 : BitVec 32 := 4#32
  let v116 : BitVec 32 := Scalar.divsi v12 c4_i32_88
  let v117 : BitVec 32 := Scalar.addi v115 v116
  let c8_i32_92 : BitVec 32 := 8#32
  let v122 : BitVec 32 := Scalar.muli v117 c8_i32_92
  let c2_i32_89 : BitVec 32 := 2#32
  let v118 : BitVec 32 := Scalar.remsi v113 c2_i32_89
  let c4_i32_90 : BitVec 32 := 4#32
  let v119 : BitVec 32 := Scalar.muli v118 c4_i32_90
  let c4_i32_91 : BitVec 32 := 4#32
  let v120 : BitVec 32 := Scalar.remsi v12 c4_i32_91
  let v121 : BitVec 32 := Scalar.addi v119 v120
  let v123 : BitVec 32 := Scalar.addi v122 v121
  let c1_i32_94 : BitVec 32 := 1#32
  let v124 : BitVec 32 := Scalar.muli v123 c1_i32_94
  let v125 : BitVec 32 := Scalar.addi c0_i32_95 v124
  v125.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_96 : BitVec 32 := 2#32
  let v126 : BitVec 32 := Scalar.addi v8 c2_i32_96
  let c4_i32_97 : BitVec 32 := 4#32
  let v127 : BitVec 32 := Scalar.remsi v126 c4_i32_97
  let c2_i32_98 : BitVec 32 := 2#32
  let v128 : BitVec 32 := Scalar.divsi v127 c2_i32_98
  let c2_i32_99 : BitVec 32 := 2#32
  let v129 : BitVec 32 := Scalar.muli v128 c2_i32_99
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_100 : BitVec 32 := 4#32
  let v130 : BitVec 32 := Scalar.divsi v12 c4_i32_100
  let v131 : BitVec 32 := Scalar.addi v129 v130
  let c8_i32_104 : BitVec 32 := 8#32
  let v136 : BitVec 32 := Scalar.muli v131 c8_i32_104
  let c2_i32_101 : BitVec 32 := 2#32
  let v132 : BitVec 32 := Scalar.remsi v127 c2_i32_101
  let c4_i32_102 : BitVec 32 := 4#32
  let v133 : BitVec 32 := Scalar.muli v132 c4_i32_102
  let c4_i32_103 : BitVec 32 := 4#32
  let v134 : BitVec 32 := Scalar.remsi v12 c4_i32_103
  let v135 : BitVec 32 := Scalar.addi v133 v134
  let v137 : BitVec 32 := Scalar.addi v136 v135
  let c1_i32_106 : BitVec 32 := 1#32
  let v138 : BitVec 32 := Scalar.muli v137 c1_i32_106
  let v139 : BitVec 32 := Scalar.addi c0_i32_107 v138
  v139.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c3_i32_108 : BitVec 32 := 3#32
  let v140 : BitVec 32 := Scalar.addi v8 c3_i32_108
  let c4_i32_109 : BitVec 32 := 4#32
  let v141 : BitVec 32 := Scalar.remsi v140 c4_i32_109
  let c2_i32_110 : BitVec 32 := 2#32
  let v142 : BitVec 32 := Scalar.divsi v141 c2_i32_110
  let c2_i32_111 : BitVec 32 := 2#32
  let v143 : BitVec 32 := Scalar.muli v142 c2_i32_111
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_112 : BitVec 32 := 4#32
  let v144 : BitVec 32 := Scalar.divsi v12 c4_i32_112
  let v145 : BitVec 32 := Scalar.addi v143 v144
  let c8_i32_116 : BitVec 32 := 8#32
  let v150 : BitVec 32 := Scalar.muli v145 c8_i32_116
  let c2_i32_113 : BitVec 32 := 2#32
  let v146 : BitVec 32 := Scalar.remsi v141 c2_i32_113
  let c4_i32_114 : BitVec 32 := 4#32
  let v147 : BitVec 32 := Scalar.muli v146 c4_i32_114
  let c4_i32_115 : BitVec 32 := 4#32
  let v148 : BitVec 32 := Scalar.remsi v12 c4_i32_115
  let v149 : BitVec 32 := Scalar.addi v147 v148
  let v151 : BitVec 32 := Scalar.addi v150 v149
  let c1_i32_118 : BitVec 32 := 1#32
  let v152 : BitVec 32 := Scalar.muli v151 c1_i32_118
  let v153 : BitVec 32 := Scalar.addi c0_i32_119 v152
  v153.toNat
def k0_off1 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_2 : BitVec 32 := 2#32
  let v9 : BitVec 32 := Scalar.remsi v3 c2_i32_2
  let c4_i32_3 : BitVec 32 := 4#32
  let v10 : BitVec 32 := Scalar.muli v9 c4_i32_3
  let c8_i32_0 : BitVec 32 := 8#32
  let v4 : BitVec 32 := Scalar.remsi v2 c8_i32_0
  let c4_i32_4 : BitVec 32 := 4#32
  let v11 : BitVec 32 := Scalar.remsi v4 c4_i32_4
  let v12 : BitVec 32 := Scalar.addi v10 v11
  let c96_i32 : BitVec 32 := 96#32
  let v172 : BitVec 32 := Scalar.muli v12 c96_i32
  let v173 : BitVec 32 := Scalar.addi v172 c0_i32_128
  let v174 : Index := Scalar.indexCast v173
  let c0_129 : Index := 0#32
  ![v174.toNat, 0]
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_141 : BitVec 32 := 2#32
  let v189 : BitVec 32 := Scalar.divsi v8 c2_i32_141
  let c2_i32_142 : BitVec 32 := 2#32
  let v190 : BitVec 32 := Scalar.muli v189 c2_i32_142
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c1_i32_139 : BitVec 32 := 1#32
  let v187 : BitVec 32 := Scalar.addi v12 c1_i32_139
  let c8_i32_140 : BitVec 32 := 8#32
  let v188 : BitVec 32 := Scalar.remsi v187 c8_i32_140
  let c4_i32_143 : BitVec 32 := 4#32
  let v191 : BitVec 32 := Scalar.divsi v188 c4_i32_143
  let v192 : BitVec 32 := Scalar.addi v190 v191
  let c8_i32_147 : BitVec 32 := 8#32
  let v197 : BitVec 32 := Scalar.muli v192 c8_i32_147
  let c2_i32_144 : BitVec 32 := 2#32
  let v193 : BitVec 32 := Scalar.remsi v8 c2_i32_144
  let c4_i32_145 : BitVec 32 := 4#32
  let v194 : BitVec 32 := Scalar.muli v193 c4_i32_145
  let c4_i32_146 : BitVec 32 := 4#32
  let v195 : BitVec 32 := Scalar.remsi v188 c4_i32_146
  let v196 : BitVec 32 := Scalar.addi v194 v195
  let v198 : BitVec 32 := Scalar.addi v197 v196
  let c1_i32_151 : BitVec 32 := 1#32
  let v199 : BitVec 32 := Scalar.muli v198 c1_i32_151
  let v200 : BitVec 32 := Scalar.addi c0_i32_152 v199
  v200.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_165 : BitVec 32 := 2#32
  let v220 : BitVec 32 := Scalar.divsi v8 c2_i32_165
  let c2_i32_166 : BitVec 32 := 2#32
  let v221 : BitVec 32 := Scalar.muli v220 c2_i32_166
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c2_i32_163 : BitVec 32 := 2#32
  let v218 : BitVec 32 := Scalar.addi v12 c2_i32_163
  let c8_i32_164 : BitVec 32 := 8#32
  let v219 : BitVec 32 := Scalar.remsi v218 c8_i32_164
  let c4_i32_167 : BitVec 32 := 4#32
  let v222 : BitVec 32 := Scalar.divsi v219 c4_i32_167
  let v223 : BitVec 32 := Scalar.addi v221 v222
  let c8_i32_171 : BitVec 32 := 8#32
  let v228 : BitVec 32 := Scalar.muli v223 c8_i32_171
  let c2_i32_168 : BitVec 32 := 2#32
  let v224 : BitVec 32 := Scalar.remsi v8 c2_i32_168
  let c4_i32_169 : BitVec 32 := 4#32
  let v225 : BitVec 32 := Scalar.muli v224 c4_i32_169
  let c4_i32_170 : BitVec 32 := 4#32
  let v226 : BitVec 32 := Scalar.remsi v219 c4_i32_170
  let v227 : BitVec 32 := Scalar.addi v225 v226
  let v229 : BitVec 32 := Scalar.addi v228 v227
  let c1_i32_175 : BitVec 32 := 1#32
  let v230 : BitVec 32 := Scalar.muli v229 c1_i32_175
  let v231 : BitVec 32 := Scalar.addi c0_i32_176 v230
  v231.toNat
def k0_dev13 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_183 : BitVec 32 := 2#32
  let v241 : BitVec 32 := Scalar.divsi v8 c2_i32_183
  let c2_i32_184 : BitVec 32 := 2#32
  let v242 : BitVec 32 := Scalar.muli v241 c2_i32_184
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c3_i32_181 : BitVec 32 := 3#32
  let v239 : BitVec 32 := Scalar.addi v12 c3_i32_181
  let c8_i32_182 : BitVec 32 := 8#32
  let v240 : BitVec 32 := Scalar.remsi v239 c8_i32_182
  let c4_i32_185 : BitVec 32 := 4#32
  let v243 : BitVec 32 := Scalar.divsi v240 c4_i32_185
  let v244 : BitVec 32 := Scalar.addi v242 v243
  let c8_i32_189 : BitVec 32 := 8#32
  let v249 : BitVec 32 := Scalar.muli v244 c8_i32_189
  let c2_i32_186 : BitVec 32 := 2#32
  let v245 : BitVec 32 := Scalar.remsi v8 c2_i32_186
  let c4_i32_187 : BitVec 32 := 4#32
  let v246 : BitVec 32 := Scalar.muli v245 c4_i32_187
  let c4_i32_188 : BitVec 32 := 4#32
  let v247 : BitVec 32 := Scalar.remsi v240 c4_i32_188
  let v248 : BitVec 32 := Scalar.addi v246 v247
  let v250 : BitVec 32 := Scalar.addi v249 v248
  let c1_i32_193 : BitVec 32 := 1#32
  let v251 : BitVec 32 := Scalar.muli v250 c1_i32_193
  let v252 : BitVec 32 := Scalar.addi c0_i32_194 v251
  v252.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_206 : BitVec 32 := 2#32
  let v272 : BitVec 32 := Scalar.divsi v8 c2_i32_206
  let c2_i32_207 : BitVec 32 := 2#32
  let v273 : BitVec 32 := Scalar.muli v272 c2_i32_207
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_204 : BitVec 32 := 4#32
  let v270 : BitVec 32 := Scalar.addi v12 c4_i32_204
  let c8_i32_205 : BitVec 32 := 8#32
  let v271 : BitVec 32 := Scalar.remsi v270 c8_i32_205
  let c4_i32_208 : BitVec 32 := 4#32
  let v274 : BitVec 32 := Scalar.divsi v271 c4_i32_208
  let v275 : BitVec 32 := Scalar.addi v273 v274
  let c8_i32_212 : BitVec 32 := 8#32
  let v280 : BitVec 32 := Scalar.muli v275 c8_i32_212
  let c2_i32_209 : BitVec 32 := 2#32
  let v276 : BitVec 32 := Scalar.remsi v8 c2_i32_209
  let c4_i32_210 : BitVec 32 := 4#32
  let v277 : BitVec 32 := Scalar.muli v276 c4_i32_210
  let c4_i32_211 : BitVec 32 := 4#32
  let v278 : BitVec 32 := Scalar.remsi v271 c4_i32_211
  let v279 : BitVec 32 := Scalar.addi v277 v278
  let v281 : BitVec 32 := Scalar.addi v280 v279
  let c1_i32_216 : BitVec 32 := 1#32
  let v282 : BitVec 32 := Scalar.muli v281 c1_i32_216
  let v283 : BitVec 32 := Scalar.addi c0_i32_217 v282
  v283.toNat
def k0_dev15 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_224 : BitVec 32 := 2#32
  let v293 : BitVec 32 := Scalar.divsi v8 c2_i32_224
  let c2_i32_225 : BitVec 32 := 2#32
  let v294 : BitVec 32 := Scalar.muli v293 c2_i32_225
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c5_i32_222 : BitVec 32 := 5#32
  let v291 : BitVec 32 := Scalar.addi v12 c5_i32_222
  let c8_i32_223 : BitVec 32 := 8#32
  let v292 : BitVec 32 := Scalar.remsi v291 c8_i32_223
  let c4_i32_226 : BitVec 32 := 4#32
  let v295 : BitVec 32 := Scalar.divsi v292 c4_i32_226
  let v296 : BitVec 32 := Scalar.addi v294 v295
  let c8_i32_230 : BitVec 32 := 8#32
  let v301 : BitVec 32 := Scalar.muli v296 c8_i32_230
  let c2_i32_227 : BitVec 32 := 2#32
  let v297 : BitVec 32 := Scalar.remsi v8 c2_i32_227
  let c4_i32_228 : BitVec 32 := 4#32
  let v298 : BitVec 32 := Scalar.muli v297 c4_i32_228
  let c4_i32_229 : BitVec 32 := 4#32
  let v299 : BitVec 32 := Scalar.remsi v292 c4_i32_229
  let v300 : BitVec 32 := Scalar.addi v298 v299
  let v302 : BitVec 32 := Scalar.addi v301 v300
  let c1_i32_234 : BitVec 32 := 1#32
  let v303 : BitVec 32 := Scalar.muli v302 c1_i32_234
  let v304 : BitVec 32 := Scalar.addi c0_i32_235 v303
  v304.toNat
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_247 : BitVec 32 := 2#32
  let v324 : BitVec 32 := Scalar.divsi v8 c2_i32_247
  let c2_i32_248 : BitVec 32 := 2#32
  let v325 : BitVec 32 := Scalar.muli v324 c2_i32_248
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c6_i32_245 : BitVec 32 := 6#32
  let v322 : BitVec 32 := Scalar.addi v12 c6_i32_245
  let c8_i32_246 : BitVec 32 := 8#32
  let v323 : BitVec 32 := Scalar.remsi v322 c8_i32_246
  let c4_i32_249 : BitVec 32 := 4#32
  let v326 : BitVec 32 := Scalar.divsi v323 c4_i32_249
  let v327 : BitVec 32 := Scalar.addi v325 v326
  let c8_i32_253 : BitVec 32 := 8#32
  let v332 : BitVec 32 := Scalar.muli v327 c8_i32_253
  let c2_i32_250 : BitVec 32 := 2#32
  let v328 : BitVec 32 := Scalar.remsi v8 c2_i32_250
  let c4_i32_251 : BitVec 32 := 4#32
  let v329 : BitVec 32 := Scalar.muli v328 c4_i32_251
  let c4_i32_252 : BitVec 32 := 4#32
  let v330 : BitVec 32 := Scalar.remsi v323 c4_i32_252
  let v331 : BitVec 32 := Scalar.addi v329 v330
  let v333 : BitVec 32 := Scalar.addi v332 v331
  let c1_i32_257 : BitVec 32 := 1#32
  let v334 : BitVec 32 := Scalar.muli v333 c1_i32_257
  let v335 : BitVec 32 := Scalar.addi c0_i32_258 v334
  v335.toNat
def k0_dev17 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_265 : BitVec 32 := 2#32
  let v345 : BitVec 32 := Scalar.divsi v8 c2_i32_265
  let c2_i32_266 : BitVec 32 := 2#32
  let v346 : BitVec 32 := Scalar.muli v345 c2_i32_266
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c7_i32_263 : BitVec 32 := 7#32
  let v343 : BitVec 32 := Scalar.addi v12 c7_i32_263
  let c8_i32_264 : BitVec 32 := 8#32
  let v344 : BitVec 32 := Scalar.remsi v343 c8_i32_264
  let c4_i32_267 : BitVec 32 := 4#32
  let v347 : BitVec 32 := Scalar.divsi v344 c4_i32_267
  let v348 : BitVec 32 := Scalar.addi v346 v347
  let c8_i32_271 : BitVec 32 := 8#32
  let v353 : BitVec 32 := Scalar.muli v348 c8_i32_271
  let c2_i32_268 : BitVec 32 := 2#32
  let v349 : BitVec 32 := Scalar.remsi v8 c2_i32_268
  let c4_i32_269 : BitVec 32 := 4#32
  let v350 : BitVec 32 := Scalar.muli v349 c4_i32_269
  let c4_i32_270 : BitVec 32 := 4#32
  let v351 : BitVec 32 := Scalar.remsi v344 c4_i32_270
  let v352 : BitVec 32 := Scalar.addi v350 v351
  let v354 : BitVec 32 := Scalar.addi v353 v352
  let c1_i32_275 : BitVec 32 := 1#32
  let v355 : BitVec 32 := Scalar.muli v354 c1_i32_275
  let v356 : BitVec 32 := Scalar.addi c0_i32_276 v355
  v356.toNat
def k0_off2 (d0 : Dev nD) (c1_i32_361 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let v427 : BitVec 32 := Scalar.addi v8 c1_i32_361
  let c4_i32_362 : BitVec 32 := 4#32
  let v428 : BitVec 32 := Scalar.remsi v427 c4_i32_362
  let c24_i32 : BitVec 32 := 24#32
  let v429 : BitVec 32 := Scalar.muli v428 c24_i32
  let c0_i32_377 : BitVec 32 := 0#32
  ![v429.toNat, 0]
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c1_i32_361 : BitVec 32 := 1#32
  let v427 : BitVec 32 := Scalar.addi v8 c1_i32_361
  let c4_i32_362 : BitVec 32 := 4#32
  let v428 : BitVec 32 := Scalar.remsi v427 c4_i32_362
  let c2_i32_363 : BitVec 32 := 2#32
  let v430 : BitVec 32 := Scalar.divsi v428 c2_i32_363
  let c2_i32_364 : BitVec 32 := 2#32
  let v431 : BitVec 32 := Scalar.muli v430 c2_i32_364
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_365 : BitVec 32 := 4#32
  let v432 : BitVec 32 := Scalar.divsi v12 c4_i32_365
  let v433 : BitVec 32 := Scalar.addi v431 v432
  let c8_i32_369 : BitVec 32 := 8#32
  let v438 : BitVec 32 := Scalar.muli v433 c8_i32_369
  let c2_i32_366 : BitVec 32 := 2#32
  let v434 : BitVec 32 := Scalar.remsi v428 c2_i32_366
  let c4_i32_367 : BitVec 32 := 4#32
  let v435 : BitVec 32 := Scalar.muli v434 c4_i32_367
  let c4_i32_368 : BitVec 32 := 4#32
  let v436 : BitVec 32 := Scalar.remsi v12 c4_i32_368
  let v437 : BitVec 32 := Scalar.addi v435 v436
  let v439 : BitVec 32 := Scalar.addi v438 v437
  let c1_i32_373 : BitVec 32 := 1#32
  let v440 : BitVec 32 := Scalar.muli v439 c1_i32_373
  let v441 : BitVec 32 := Scalar.addi c0_i32_374 v440
  v441.toNat
def k0_dev19 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c2_i32_378 : BitVec 32 := 2#32
  let v449 : BitVec 32 := Scalar.addi v8 c2_i32_378
  let c4_i32_379 : BitVec 32 := 4#32
  let v450 : BitVec 32 := Scalar.remsi v449 c4_i32_379
  let c2_i32_381 : BitVec 32 := 2#32
  let v452 : BitVec 32 := Scalar.divsi v450 c2_i32_381
  let c2_i32_382 : BitVec 32 := 2#32
  let v453 : BitVec 32 := Scalar.muli v452 c2_i32_382
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_383 : BitVec 32 := 4#32
  let v454 : BitVec 32 := Scalar.divsi v12 c4_i32_383
  let v455 : BitVec 32 := Scalar.addi v453 v454
  let c8_i32_387 : BitVec 32 := 8#32
  let v460 : BitVec 32 := Scalar.muli v455 c8_i32_387
  let c2_i32_384 : BitVec 32 := 2#32
  let v456 : BitVec 32 := Scalar.remsi v450 c2_i32_384
  let c4_i32_385 : BitVec 32 := 4#32
  let v457 : BitVec 32 := Scalar.muli v456 c4_i32_385
  let c4_i32_386 : BitVec 32 := 4#32
  let v458 : BitVec 32 := Scalar.remsi v12 c4_i32_386
  let v459 : BitVec 32 := Scalar.addi v457 v458
  let v461 : BitVec 32 := Scalar.addi v460 v459
  let c1_i32_391 : BitVec 32 := 1#32
  let v462 : BitVec 32 := Scalar.muli v461 c1_i32_391
  let v463 : BitVec 32 := Scalar.addi c0_i32_392 v462
  v463.toNat
def k0_dev20 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c3_i32_396 : BitVec 32 := 3#32
  let v471 : BitVec 32 := Scalar.addi v8 c3_i32_396
  let c4_i32_397 : BitVec 32 := 4#32
  let v472 : BitVec 32 := Scalar.remsi v471 c4_i32_397
  let c2_i32_399 : BitVec 32 := 2#32
  let v474 : BitVec 32 := Scalar.divsi v472 c2_i32_399
  let c2_i32_400 : BitVec 32 := 2#32
  let v475 : BitVec 32 := Scalar.muli v474 c2_i32_400
  let c2_i32_2 : BitVec 32 := 2#32
  let v9 : BitVec 32 := Scalar.remsi v3 c2_i32_2
  let c4_i32_3 : BitVec 32 := 4#32
  let v10 : BitVec 32 := Scalar.muli v9 c4_i32_3
  let c4_i32_4 : BitVec 32 := 4#32
  let v11 : BitVec 32 := Scalar.remsi v4 c4_i32_4
  let v12 : BitVec 32 := Scalar.addi v10 v11
  let c4_i32_401 : BitVec 32 := 4#32
  let v476 : BitVec 32 := Scalar.divsi v12 c4_i32_401
  let v477 : BitVec 32 := Scalar.addi v475 v476
  let c8_i32_405 : BitVec 32 := 8#32
  let v482 : BitVec 32 := Scalar.muli v477 c8_i32_405
  let c2_i32_402 : BitVec 32 := 2#32
  let v478 : BitVec 32 := Scalar.remsi v472 c2_i32_402
  let c4_i32_403 : BitVec 32 := 4#32
  let v479 : BitVec 32 := Scalar.muli v478 c4_i32_403
  let c4_i32_404 : BitVec 32 := 4#32
  let v480 : BitVec 32 := Scalar.remsi v12 c4_i32_404
  let v481 : BitVec 32 := Scalar.addi v479 v480
  let v483 : BitVec 32 := Scalar.addi v482 v481
  let c1_i32_409 : BitVec 32 := 1#32
  let v484 : BitVec 32 := Scalar.muli v483 c1_i32_409
  let v485 : BitVec 32 := Scalar.addi c0_i32_410 v484
  v485.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32 : BitVec 32 := 2#32
  let v5 : BitVec 32 := Scalar.divsi v3 c2_i32
  let c2_i32_1 : BitVec 32 := 2#32
  let v6 : BitVec 32 := Scalar.muli v5 c2_i32_1
  let c8_i32_0 : BitVec 32 := 8#32
  let v4 : BitVec 32 := Scalar.remsi v2 c8_i32_0
  let c4_i32 : BitVec 32 := 4#32
  let v7 : BitVec 32 := Scalar.divsi v4 c4_i32
  let v8 : BitVec 32 := Scalar.addi v6 v7
  let c24_i32_444 : BitVec 32 := 24#32
  let v514 : BitVec 32 := Scalar.muli v8 c24_i32_444
  let v515 : Index := Scalar.indexCast v514
  let c0_445 : Index := 0#32
  ![v515.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x12288 : Shape := ⟨2, ![768, 12288]⟩
abbrev S12288x768 : Shape := ⟨2, ![12288, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x12288, .f32⟩
  | .hbm, ⟨1, _⟩ => ⟨S12288x768, .f32⟩
  | .hbm, ⟨2, _⟩ => ⟨S768x768, .f32⟩
  | _, _ => ⟨S768x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealRing.lean ====
/-
The mesh of `KernelIdeal` as cubes and members, its memrefs and semaphores at a symbolic slot, and what every
buffer holds at each stage of the run.

Device `c` is member `M c` of eight of cube `C c` of four. Phase one sends block `t` of `c`'s product to member
`M c + t` of its own cube; phase two sends a quarter of the cube's sum to the member with the same number of cube
`C c + u`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Pointwise.Index
public import Idealize.ShloMosaic.Lib.ValueLayout
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The cube a device lies in. -/
def C (c : Dev nD) : Fin 4 := ⟨2 * ((c.val / 8) / 2) + (c.val % 8) / 4, by have : c.val < 32 := c.isLt; omega⟩
/-- Its number within the cube. -/
def M (c : Dev nD) : Fin 8 := ⟨4 * ((c.val / 8) % 2) + (c.val % 8) % 4, by have : c.val < 32 := c.isLt; omega⟩
/-- The device of a cube with a given number. -/
def pos (a : Fin 4) (b : Fin 8) : Dev nD :=
  ⟨16 * (a.val / 2) + 8 * (b.val / 4) + 4 * (a.val % 2) + b.val % 4, by show _ < 32; omega⟩

/-- The device `t` places on in the own cube. -/
def memP (c : Dev nD) (t : Fin 8) : Dev nD := pos (C c) (M c + t)
/-- The device of the same number `u` cubes on. -/
def cubP (c : Dev nD) (u : Fin 4) : Dev nD := pos (C c + u) (M c)

theorem C_pos : ∀ a b, C (pos a b) = a := by decide +kernel
theorem M_pos : ∀ a b, M (pos a b) = b := by decide +kernel
theorem pos_CM : ∀ c, pos (C c) (M c) = c := by decide +kernel

theorem C_memP (c t) : C (memP c t) = C c := C_pos _ _
theorem M_memP (c t) : M (memP c t) = M c + t := M_pos _ _
theorem C_cubP (c u) : C (cubP c u) = C c + u := C_pos _ _
theorem M_cubP (c u) : M (cubP c u) = M c := M_pos _ _

theorem nn8 : ∀ t : Fin 8, -(-t) = t := by decide
theorem nn4 : ∀ u : Fin 4, -(-u) = u := by decide
theorem memP_neg : ∀ c t, memP (memP c t) (-t) = c := by decide +kernel
theorem memP_neg' : ∀ c t, memP (memP c (-t)) t = c := by decide +kernel
theorem cubP_neg : ∀ c u, cubP (cubP c u) (-u) = c := by decide +kernel
theorem cubP_neg' : ∀ c u, cubP (cubP c (-u)) u = c := by decide +kernel
theorem memP_zero : ∀ c, memP c 0 = c := by decide +kernel
theorem cubP_zero : ∀ c, cubP c 0 = c := by decide +kernel

/-- Moving `t` places on in every cube, as a permutation of the devices; -/
def memE (t : Fin 8) : Dev nD ≃ Dev nD := ⟨fun c => memP c t, fun c => memP c (-t), fun c => memP_neg c t, fun c => memP_neg' c t⟩
/-- and moving `u` cubes on. -/
def cubE (u : Fin 4) : Dev nD ≃ Dev nD := ⟨fun c => cubP c u, fun c => cubP c (-u), fun c => cubP_neg c u, fun c => cubP_neg' c u⟩

/-! ## The memrefs -/

abbrev aM : Memref sig .tc .vmem S768x384 .f32 := Memref.whole cc0_stg0_0
abbrev bM : Memref sig .tc .vmem S384x768 .f32 := Memref.whole cc0_stg1_0
abbrev oM : Memref sig .tc .vmem S24x768 .f32 := Memref.whole cc0_stg2_0
abbrev a2M : Memref sig .tc .vmem S1536x384 .bf16 := Memref.whole cc0_scratch0
abbrev bbM : Memref sig .tc .vmem S384x768 .bf16 := Memref.whole cc0_scratch1
abbrev pM : Memref sig .tc .vmem S768x768 .bf16 := Memref.whole cc0_scratch2
abbrev r1M : Memref sig .tc .vmem S8x96x768 .bf16 := Memref.whole cc0_scratch3
abbrev sM : Memref sig .tc .vmem S96x768 .f32 := Memref.whole cc0_scratch4
abbrev sbM : Memref sig .tc .vmem S96x768 .bf16 := Memref.whole cc0_scratch5
abbrev r2M : Memref sig .tc .vmem S4x24x768 .bf16 := Memref.whole cc0_scratch6

theorem inb_p : ∀ (t : Fin 8) (a : Fin 2), (![96 * t.val, 0] : Fin 2 → Nat) a + S96x768.size a ≤ S768x768.size a := by decide
theorem inb_q : ∀ (q : Fin 4) (a : Fin 2), (![192 * q.val, 0] : Fin 2 → Nat) a + S192x768.size a ≤ S768x768.size a := by decide
theorem inb_r1 : ∀ (s : Fin 8) (a : Fin 3), (![s.val, 0, 0] : Fin 3 → Nat) a + S1x96x768.size a ≤ S8x96x768.size a := by decide
theorem inb_s : ∀ (v : Fin 4) (a : Fin 2), (![24 * v.val, 0] : Fin 2 → Nat) a + S24x768.size a ≤ S96x768.size a := by decide
theorem inb_r2 : ∀ (s : Fin 4) (a : Fin 3), (![s.val, 0, 0] : Fin 3 → Nat) a + S1x24x768.size a ≤ S4x24x768.size a := by decide

/-- Block `t` of the product: what device `memP c t` is sent. -/
abbrev pSl (t : Fin 8) : Memref sig .tc .vmem S96x768 .bf16 :=
  pM.slice (Rect.unit (s := S768x768) ![96 * t.val, 0] S96x768.size (inb_p t)) (fun _ => rfl)
/-- The half-chunk stored by product `q`: blocks `2 q` and `2 q + 1`. -/
abbrev qR (q : Fin 4) : Rect S768x768 := Rect.unit (s := S768x768) ![192 * q.val, 0] S192x768.size (inb_q q)
/-- Slot `s` of the first landing buffer. -/
abbrev r1Sl (s : Fin 8) : Memref sig .tc .vmem S96x768 .bf16 :=
  (r1M.slice (Rect.unit (s := S8x96x768) ![s.val, 0, 0] S1x96x768.size (inb_r1 s)) (fun _ => rfl)).squeeze S96x768 squeezes_S1x96x768_S96x768
/-- Quarter `v` of the cube's sum: what cube `v` is sent. -/
abbrev sbSl (v : Fin 4) : Memref sig .tc .vmem S24x768 .bf16 :=
  sbM.slice (Rect.unit (s := S96x768) ![24 * v.val, 0] S24x768.size (inb_s v)) (fun _ => rfl)
/-- Slot `s` of the second landing buffer. -/
abbrev r2Sl (s : Fin 4) : Memref sig .tc .vmem S24x768 .bf16 :=
  (r2M.slice (Rect.unit (s := S4x24x768) ![s.val, 0, 0] S1x24x768.size (inb_r2 s)) (fun _ => rfl)).squeeze S24x768 squeezes_S1x24x768_S24x768

/-- A slice of a memref at equal offsets is the same slice. -/
theorem slice_off {sp : Space} {s : Shape} {e : EltTy} (m : Memref sig .tc sp s e) {off off' size : Fin s.rank → Nat}
    (h : off = off') (inb inb') (hh hh') :
    m.slice (Rect.unit off size inb) hh = m.slice (Rect.unit off' size inb') hh' := by subst h; rfl

/-- The rows the sum is sent from, at the program's offsets. -/
theorem sbSl_off (c : Dev nD) (r : Fin 3) (u : Fin 4) (hu : u.val = r.val + 1) :
    sbM.slice (Rect.unit (s := S96x768) (k0_off2 c (BitVec.ofNat 32 (1 + r.val))) S24x768.size (k0_off2_inb c r)) (fun _ => rfl)
      = sbSl (C c + u) :=
  slice_off sbM (by
    rw [k0_off2_eq]
    have : (C c + u).val = (2 * ((c.val / 8) / 2) + ((c.val % 8) / 4) + r.val + 1) % 4 := by
      rw [Fin.val_add, hu]; rfl
    rw [this]) _ _ _ _

/-! ## The semaphores -/

/-- The mesh's barrier semaphore. -/
abbrev barS : Sem sig := (SemArray.scalar (sig.barrier 0 rfl) : Sems sig S_).sem
/-- Departure of block `t`, -/
abbrev qS1 (t : Fin 8) : DmaSem sig := ⟨3 + t.val, by show _ < 27; omega⟩
/-- arrival in slot `s`, -/
abbrev qR1 (s : Fin 8) : DmaSem sig := ⟨11 + s.val, by show _ < 27; omega⟩
/-- departure of the quarter for the cube `u` on, -/
abbrev qS2 (u : Fin 4) : DmaSem sig := ⟨19 + u.val, by show _ < 27; omega⟩
/-- arrival in slot `s` of the second landing buffer. -/
abbrev qR2 (s : Fin 4) : DmaSem sig := ⟨23 + s.val, by show _ < 27; omega⟩

abbrev barC (c : Dev nD) : GSem nD τ sig := ((c : Thread nD τ), .reg barS)
abbrev dC (c : Dev nD) (q : DmaSem sig) : GSem nD τ sig := ((c : Thread nD τ), .dma q)

/-- What a landing credits: the words of a block of 96 rows, -/
abbrev N1 : ℕ := (r1Sl 0).view.dmaCredit
/-- and of 24 rows. -/
abbrev N2 : ℕ := (r2Sl 0).view.dmaCredit
theorem N1_pos : 0 < N1 := View.dmaCredit_pos _ (by decide)
theorem N2_pos : 0 < N2 := View.dmaCredit_pos _ (by decide)

/-! ## The element sets of the slots -/

theorem mem_pSl {t : Fin 8} {i : S768x768.Idx} : i ∈ (pSl t).view.set ↔ (i 0).val / 96 = t.val := by
  refine (ValueKit.mem_set_slice_whole_iff cc0_scratch2 _ i Rect.mem_set_unit).trans ?_
  have h0 : (i 0).val < 768 := (i 0).isLt
  have h1 : (i 1).val < 768 := (i 1).isLt
  refine Iff.trans (Fin.forall_fin_two (p := fun a => _)) ?_
  show (96 * t.val ≤ (i 0).val ∧ (i 0).val < 96 * t.val + 96) ∧ (0 ≤ (i 1).val ∧ (i 1).val < 0 + 768) ↔ _
  omega
theorem mem_qR {q : Fin 4} {i : S768x768.Idx} : i ∈ (qR q).set ↔ (i 0).val / 192 = q.val := by
  rw [Rect.mem_set_unit]
  have h0 : (i 0).val < 768 := (i 0).isLt
  have h1 : (i 1).val < 768 := (i 1).isLt
  refine Iff.trans (Fin.forall_fin_two (p := fun a => _)) ?_
  show (192 * q.val ≤ (i 0).val ∧ (i 0).val < 192 * q.val + 192) ∧ (0 ≤ (i 1).val ∧ (i 1).val < 0 + 768) ↔ _
  omega
theorem mem_r1Sl {s : Fin 8} {i : S8x96x768.Idx} : i ∈ (r1Sl s).view.set ↔ (i 0).val = s.val := by
  rw [show (r1Sl s).view.set = _ from View.set_reshape _ _]
  refine (ValueKit.mem_set_slice_whole_iff cc0_scratch3 _ i Rect.mem_set_unit).trans ?_
  have h1 : (i 1).val < 96 := (i 1).isLt
  have h2 : (i 2).val < 768 := (i 2).isLt
  refine Iff.trans ((Fin.forall_fin_succ (n := 2) (P := fun a => _)).trans (and_congr_right fun _ => Fin.forall_fin_two (p := fun a => _))) ?_
  show (s.val ≤ (i 0).val ∧ (i 0).val < s.val + 1) ∧ (0 ≤ (i 1).val ∧ (i 1).val < 0 + 96) ∧ (0 ≤ (i 2).val ∧ (i 2).val < 0 + 768) ↔ (i 0).val = s.val
  omega
theorem mem_sbSl {v : Fin 4} {i : S96x768.Idx} : i ∈ (sbSl v).view.set ↔ (i 0).val / 24 = v.val := by
  refine (ValueKit.mem_set_slice_whole_iff cc0_scratch5 _ i Rect.mem_set_unit).trans ?_
  have h0 : (i 0).val < 96 := (i 0).isLt
  have h1 : (i 1).val < 768 := (i 1).isLt
  refine Iff.trans (Fin.forall_fin_two (p := fun a => _)) ?_
  show (24 * v.val ≤ (i 0).val ∧ (i 0).val < 24 * v.val + 24) ∧ (0 ≤ (i 1).val ∧ (i 1).val < 0 + 768) ↔ _
  omega
theorem mem_r2Sl {s : Fin 4} {i : S4x24x768.Idx} : i ∈ (r2Sl s).view.set ↔ (i 0).val = s.val := by
  rw [show (r2Sl s).view.set = _ from View.set_reshape _ _]
  refine (ValueKit.mem_set_slice_whole_iff cc0_scratch6 _ i Rect.mem_set_unit).trans ?_
  have h1 : (i 1).val < 24 := (i 1).isLt
  have h2 : (i 2).val < 768 := (i 2).isLt
  refine Iff.trans ((Fin.forall_fin_succ (n := 2) (P := fun a => _)).trans (and_congr_right fun _ => Fin.forall_fin_two (p := fun a => _))) ?_
  show (s.val ≤ (i 0).val ∧ (i 0).val < s.val + 1) ∧ (0 ≤ (i 1).val ∧ (i 1).val < 0 + 24) ∧ (0 ≤ (i 2).val ∧ (i 2).val < 0 + 768) ↔ (i 0).val = s.val
  omega

/-! ## Where a slot's elements lie -/

/-- Row `i` of block `t`, in the product. -/
theorem pSl_emb (t : Fin 8) (x : S96x768.Idx) :
    (pSl t).view.emb x = ix2 (n0 := 768) (n1 := 768) ⟨96 * t.val + (x 0).val, by have : (x 0).val < 96 := (x 0).isLt; omega⟩ (x 1) := by
  funext a
  refine Fin.ext ?_
  rw [show ((pSl t).view.emb x a).val = _ from ValueKit.view_emb_slice_whole_unit_val cc0_scratch2 _ _ _ x a]
  match a with
  | ⟨0, _⟩ => rfl
  | ⟨1, _⟩ => exact Nat.zero_add _
/-- Row `i` of quarter `v`, in the sum. -/
theorem sbSl_emb (v : Fin 4) (x : S24x768.Idx) :
    (sbSl v).view.emb x = ix2 (n0 := 96) (n1 := 768) ⟨24 * v.val + (x 0).val, by have : (x 0).val < 24 := (x 0).isLt; omega⟩ (x 1) := by
  funext a
  refine Fin.ext ?_
  rw [show ((sbSl v).view.emb x a).val = _ from ValueKit.view_emb_slice_whole_unit_val cc0_scratch5 _ _ _ x a]
  match a with
  | ⟨0, _⟩ => rfl
  | ⟨1, _⟩ => exact Nat.zero_add _

/-- Row `i` of slot `s` of the first landing buffer. -/
theorem r1Sl_emb (s : Fin 8) (x : S96x768.Idx) : (r1Sl s).view.emb x = ix3 (n0 := 8) (n1 := 96) (n2 := 768) s (x 0) (x 1) := by
  refine (congrArg (r1M.slice (Rect.unit (s := S8x96x768) ![s.val, 0, 0] S1x96x768.size (inb_r1 s)) (fun _ => rfl)).view.emb
    ((congrArg (Shape.reshapeEquiv (Shape.Squeezes.numel_eq squeezes_S1x96x768_S96x768)) (ix2_eta (n0 := 96) (n1 := 768) x).symm).trans
      (ValueIdx.reshapeEquiv_ix2_1ab (Shape.Squeezes.numel_eq squeezes_S1x96x768_S96x768) (x 0) (x 1)))).trans ?_
  funext a
  refine Fin.ext ?_
  refine (ValueKit.view_emb_slice_whole_unit_val cc0_scratch3 _ _ _ _ a).trans ?_
  match a with
  | ⟨0, _⟩ => rfl
  | ⟨1, _⟩ => exact Nat.zero_add _
  | ⟨2, _⟩ => exact Nat.zero_add _
/-- Row `i` of slot `s` of the second. -/
theorem r2Sl_emb (s : Fin 4) (x : S24x768.Idx) : (r2Sl s).view.emb x = ix3 (n0 := 4) (n1 := 24) (n2 := 768) s (x 0) (x 1) := by
  refine (congrArg (r2M.slice (Rect.unit (s := S4x24x768) ![s.val, 0, 0] S1x24x768.size (inb_r2 s)) (fun _ => rfl)).view.emb
    ((congrArg (Shape.reshapeEquiv (Shape.Squeezes.numel_eq squeezes_S1x24x768_S24x768)) (ix2_eta (n0 := 24) (n1 := 768) x).symm).trans
      (ValueIdx.reshapeEquiv_ix2_1ab (Shape.Squeezes.numel_eq squeezes_S1x24x768_S24x768) (x 0) (x 1)))).trans ?_
  funext a
  refine Fin.ext ?_
  refine (ValueKit.view_emb_slice_whole_unit_val cc0_scratch6 _ _ _ _ a).trans ?_
  match a with
  | ⟨0, _⟩ => rfl
  | ⟨1, _⟩ => exact Nat.zero_add _
  | ⟨2, _⟩ => exact Nat.zero_add _

end Cert.KernelIdealRun

end
-- ==== Proof.KernelIdealVals.lean ====
/-
What every buffer of the kernel holds at each stage, as one vector per buffer and device, and what the program's loads,
stores and transfers do to these vectors.

The product `pV c` holds eight blocks of 96 rows; slot `s` of the first landing buffer is to hold block `-s` of member
`s` places on, so that `r1V` is one vector; likewise `r2V` for the second.
-/
module

public import proofs.«01_k».proof.Proof.KernelIdealRing

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The contents -/

/-- A device's block of `A`, -/
def aV (c : Dev nD) : Vec F S768x384 .f32 := (win0_0.blk (0 : Fin 1)).view.read (Elt F) ((s₀ m ρ).mem ((c : Thread nD τ).loc main_arg0))
/-- and of `B`, as staged. -/
def bV (c : Dev nD) : Vec F S384x768 .f32 := (win0_1.blk (0 : Fin 1)).view.read (Elt F) ((s₀ m ρ).mem ((c : Thread nD τ).loc main_arg1))
/-- `A` rounded, its rows regrouped by receiving member. -/
def agV (c : Dev nD) : Vec F S768x384 .bf16 := k0_pay3 (k0_pay1 (aV m ρ c))
/-- The same twice over, one below the other. -/
def a2V (c : Dev nD) : Vec F S1536x384 .bf16 := fun i =>
  agV m ρ c (ix2 (n0 := 768) (n1 := 384) ⟨(i 0).val % 768, Nat.mod_lt _ (by decide)⟩ (i 1))
/-- `B` rounded. -/
def bbV (c : Dev nD) : Vec F S384x768 .bf16 := k0_pay5 (bV m ρ c)
/-- The 192 rows multiplied by product `q`: those for the members `2 q` and `2 q + 1` places on. -/
def awV (c : Dev nD) (q : Fin 4) : Vec F S192x384 .bf16 := fun x =>
  a2V m ρ c (ix2 (n0 := 1536) (n1 := 384) ⟨96 * (M c).val + 192 * q.val + (x 0).val, by
    have : (x 0).val < 192 := (x 0).isLt; have := (M c).isLt; have := q.isLt; omega⟩ (x 1))
/-- Product `q`. -/
def chV (c : Dev nD) (q : Fin 4) : Vec F S192x768 .bf16 := k0_pay6 (awV m ρ c q) (bbV m ρ c)
/-- The whole product. -/
def pV (c : Dev nD) : Vec F S768x768 .bf16 := fun i =>
  chV m ρ c ⟨(i 0).val / 192, by have : (i 0).val < 768 := (i 0).isLt; omega⟩
    (ix2 (n0 := 192) (n1 := 768) ⟨(i 0).val % 192, Nat.mod_lt _ (by decide)⟩ (i 1))
/-- Block `-s` of the member `s` places on: the rows for this device. -/
def blkV (c : Dev nD) (s : Fin 8) : Vec F S96x768 .bf16 := fun y =>
  pV m ρ (memP c s) (ix2 (n0 := 768) (n1 := 768) ⟨96 * (-s).val + (y 0).val, by
    have : (y 0).val < 96 := (y 0).isLt; have := (-s).isLt; omega⟩ (y 1))
/-- The first landing buffer: that in each slot. -/
def r1V (c : Dev nD) : Vec F S8x96x768 .bf16 := fun i => blkV m ρ c (i 0) (ix2 (n0 := 96) (n1 := 768) (i 1) (i 2))
/-- Its slots 4 to 7, -/
def hiV (c : Dev nD) : Vec F S4x96x768 .bf16 := fun x =>
  r1V m ρ c (ix3 (n0 := 8) (n1 := 96) (n2 := 768) ⟨4 + (x 0).val, by have : (x 0).val < 4 := (x 0).isLt; omega⟩ (x 1) (x 2))
/-- and 0 to 3. -/
def loV (c : Dev nD) : Vec F S4x96x768 .bf16 := fun x =>
  r1V m ρ c (ix3 (n0 := 8) (n1 := 96) (n2 := 768) ⟨(x 0).val, by have : (x 0).val < 4 := (x 0).isLt; omega⟩ (x 1) (x 2))
/-- The cube's sum of the rows for the devices numbered as this one. -/
def sumV (c : Dev nD) : FVec F S96x768 .f32 := k0_pay12 (k0_pay11 (hiV m ρ c)) (loV m ρ c)
/-- It as kept, -/
def sV (c : Dev nD) : Vec F S96x768 .f32 := k0_pay13 (sumV m ρ c)
/-- and rounded, as sent. -/
def sbV (c : Dev nD) : Vec F S96x768 .bf16 := k0_pay14 (sumV m ρ c)
/-- This cube's quarter of the sum of the cube `s` places on. -/
def qtrV (c : Dev nD) (s : Fin 4) : Vec F S24x768 .bf16 := fun y =>
  sbV m ρ (cubP c s) (ix2 (n0 := 96) (n1 := 768) ⟨24 * (C c).val + (y 0).val, by
    have : (y 0).val < 24 := (y 0).isLt; have := (C c).isLt; omega⟩ (y 1))
/-- The second landing buffer: that in each slot. -/
def r2V (c : Dev nD) : Vec F S4x24x768 .bf16 := fun i => qtrV m ρ c (i 0) (ix2 (n0 := 24) (n1 := 768) (i 1) (i 2))
/-- The own quarter, as kept, -/
def ownV (c : Dev nD) : Vec F S24x768 .f32 := fun x =>
  sV m ρ c (ix2 (n0 := 96) (n1 := 768) ⟨24 * (C c).val + (x 0).val, by
    have : (x 0).val < 24 := (x 0).isLt; have := (C c).isLt; omega⟩ (x 1))
/-- the other cubes', -/
def othV (c : Dev nD) : Vec F S3x24x768 .bf16 := fun x =>
  r2V m ρ c (ix3 (n0 := 4) (n1 := 24) (n2 := 768) ⟨1 + (x 0).val, by have : (x 0).val < 3 := (x 0).isLt; omega⟩ (x 1) (x 2))
/-- and the result. -/
def outV (c : Dev nD) : Vec F S24x768 .f32 := k0_pay15 (ownV m ρ c) (othV m ρ c)

/-! ## Writes through a view -/

/-- What is written through a view agrees, on the view's elements, with any contents that hold the payload there. -/
theorem write_on {sp : Space} {s : Shape} {e : EltTy} (v : View sig .tc sp s e) (f g : v.ty.Contents (Elt F)) (w : s.Idx → Elt F e)
    (h : ∀ x, g (v.emb x) = _root_.cast (congrArg (Elt F) v.elt_eq.symm) (w x)) : ∀ i ∈ v.set, v.write (Elt F) f w Finset.univ i = g i := by
  intro i hi
  obtain ⟨x, rfl⟩ := View.exists_emb_of_mem_set _ hi
  rw [View.write_emb_of_mem _ _ (Finset.mem_univ x), h x]

/-- Two indices of a matrix with equal coordinates are the same; -/
theorem idx2_ext {a b : ℕ} {i j : (⟨2, ![a, b]⟩ : Shape).Idx} (h0 : (i 0).val = (j 0).val) (h1 : (i 1).val = (j 1).val) : i = j := by
  funext k; match k with
  | ⟨0, _⟩ => exact Fin.ext h0
  | ⟨1, _⟩ => exact Fin.ext h1
/-- and of a stack of matrices. -/
theorem idx3_ext {a b d : ℕ} {i j : (⟨3, ![a, b, d]⟩ : Shape).Idx} (h0 : (i 0).val = (j 0).val) (h1 : (i 1).val = (j 1).val)
    (h2 : (i 2).val = (j 2).val) : i = j := by
  funext k; match k with
  | ⟨0, _⟩ => exact Fin.ext h0
  | ⟨1, _⟩ => exact Fin.ext h1
  | ⟨2, _⟩ => exact Fin.ext h2

/-- Sending block `t` to the member `t` on gives it its slot `-t`. -/
theorem blk_sent (c : Dev nD) (t : Fin 8) (x : S96x768.Idx) : blkV m ρ (memP c t) (-t) x = pV m ρ c ((pSl t).view.emb x) := by
  unfold blkV
  rw [memP_neg]
  rw [pSl_emb]
  refine congrArg (pV m ρ c) (idx2_ext (a := 768) (b := 768) ?_ rfl)
  show 96 * (-(-t)).val + (x 0).val = 96 * t.val + (x 0).val
  rw [nn8]
/-- Sending its quarter to the cube `u` on gives that its slot `-u`. -/
theorem qtr_sent (c : Dev nD) (u : Fin 4) (x : S24x768.Idx) : qtrV m ρ (cubP c u) (-u) x = sbV m ρ c ((sbSl (C c + u)).view.emb x) := by
  unfold qtrV
  rw [cubP_neg]
  rw [sbSl_emb]
  refine congrArg (sbV m ρ c) (idx2_ext (a := 96) (b := 768) ?_ rfl)
  show 24 * (C (cubP c u)).val + (x 0).val = 24 * (C c + u).val + (x 0).val
  rw [C_cubP]

/-- Block `t` of `c`'s product landing at the member `t` on is what its slot `-t` is to hold. -/
theorem land1 (c : Dev nD) (t : Fin 8) (f : Vec F S8x96x768 .bf16) :
    ∀ i ∈ (r1Sl (-t)).view.set, (r1Sl (-t)).view.write (Elt F) f ((pSl t).view.read (Elt F) (pV m ρ c)) Finset.univ i = r1V m ρ (memP c t) i :=
  write_on (r1Sl (-t)).view f (r1V m ρ (memP c t)) _ fun x =>
    (congrArg (r1V m ρ (memP c t)) (r1Sl_emb (-t) x)).trans
      ((congrArg (blkV m ρ (memP c t) (-t)) (ix2_eta (n0 := 96) (n1 := 768) x)).trans (blk_sent m ρ c t x))

/-- The quarter for the cube `u` on landing there is what slot `-u` is to hold. -/
theorem land2 (c : Dev nD) (u : Fin 4) (f : Vec F S4x24x768 .bf16) :
    ∀ i ∈ (r2Sl (-u)).view.set, (r2Sl (-u)).view.write (Elt F) f ((sbSl (C c + u)).view.read (Elt F) (sbV m ρ c)) Finset.univ i = r2V m ρ (cubP c u) i :=
  write_on (r2Sl (-u)).view f (r2V m ρ (cubP c u)) _ fun x =>
    (congrArg (r2V m ρ (cubP c u)) (r2Sl_emb (-u) x)).trans
      ((congrArg (qtrV m ρ (cubP c u) (-u)) (ix2_eta (n0 := 24) (n1 := 768) x)).trans (qtr_sent m ρ c u x))

/-! ## The program's stores -/

/-- The regrouped block stored at row 0 and again at row 768. -/
theorem store_a2 (c : Dev nD) (f : Vec F S1536x384 .bf16) (h h') :
    (a2M.access (Rect.unit (s := S1536x384) ![768, 0] S768x384.size h)).write (Elt F)
      ((a2M.access (Rect.unit (s := S1536x384) ![0, 0] S768x384.size h')).write (Elt F) f (agV m ρ c) Finset.univ) (agV m ρ c) Finset.univ
      = a2V m ρ c := by
  funext i
  have hi0 : (i 0).val < 1536 := (i 0).isLt
  have hi1 : (i 1).val < 384 := (i 1).isLt
  have e1 : ∀ i ∈ (a2M.access (Rect.unit (s := S1536x384) ![768, 0] S768x384.size h)).set,
      (a2M.access (Rect.unit (s := S1536x384) ![768, 0] S768x384.size h)).write (Elt F)
      ((a2M.access (Rect.unit (s := S1536x384) ![0, 0] S768x384.size h')).write (Elt F) f (agV m ρ c) Finset.univ) (agV m ρ c) Finset.univ i = a2V m ρ c i :=
    write_on (a2M.access (Rect.unit (s := S1536x384) ![768, 0] S768x384.size h)) _ (a2V m ρ c) (agV m ρ c) fun x => congrArg (agV m ρ c) (idx2_ext (a := 768) (b := 384) (by
      have : (x 0).val < 768 := (x 0).isLt
      show (768 + 1 * (x 0).val) % 768 = (x 0).val
      omega) (by show 0 + 1 * (x 1).val = (x 1).val; omega))
  have e0 : ∀ i ∈ (a2M.access (Rect.unit (s := S1536x384) ![0, 0] S768x384.size h')).set,
      (a2M.access (Rect.unit (s := S1536x384) ![0, 0] S768x384.size h')).write (Elt F) f (agV m ρ c) Finset.univ i = a2V m ρ c i :=
    write_on (a2M.access (Rect.unit (s := S1536x384) ![0, 0] S768x384.size h')) _ (a2V m ρ c) (agV m ρ c) fun x => congrArg (agV m ρ c) (idx2_ext (a := 768) (b := 384) (by
      have : (x 0).val < 768 := (x 0).isLt
      show (0 + 1 * (x 0).val) % 768 = (x 0).val
      omega) (by show 0 + 1 * (x 1).val = (x 1).val; omega))
  by_cases hm : i ∈ (a2M.access (Rect.unit (s := S1536x384) ![768, 0] S768x384.size h)).set
  · exact e1 i hm
  · rw [View.write_of_not_mem _ _ _ (by rwa [View.setOn_univ])]
    refine e0 i ?_
    have hm' : ¬ 768 ≤ (i 0).val := fun h7 => hm ((ValueKit.mem_set_slice_whole_iff cc0_scratch0 _ i Rect.mem_set_unit).mpr fun a => by
      match a with
      | ⟨0, _⟩ => exact ⟨h7, by show (i 0).val < 768 + 768; omega⟩
      | ⟨1, _⟩ => exact ⟨Nat.zero_le _, by show (i 1).val < 0 + 384; omega⟩)
    exact (ValueKit.mem_set_slice_whole_iff cc0_scratch0 _ i Rect.mem_set_unit).mpr fun a => by
      match a with
      | ⟨0, _⟩ => exact ⟨Nat.zero_le _, by show (i 0).val < 0 + 768; omega⟩
      | ⟨1, _⟩ => exact ⟨Nat.zero_le _, by show (i 1).val < 0 + 384; omega⟩

/-- Product `q` stored in its half-chunk is the product there. -/
theorem store_ch (c : Dev nD) (q : Fin 4) (f : Vec F S768x768 .bf16) :
    ∀ i ∈ (pM.access (qR q)).set, (pM.access (qR q)).write (Elt F) f (chV m ρ c q) Finset.univ i = pV m ρ c i :=
  write_on (pM.access (qR q)) f (pV m ρ c) _ fun x => by
    have h0 : (x 0).val < 192 := (x 0).isLt
    have hq : (⟨(192 * q.val + 1 * (x 0).val) / 192, by have := q.isLt; omega⟩ : Fin 4) = q := Fin.ext (by show (192 * q.val + 1 * (x 0).val) / 192 = q.val; omega)
    show chV m ρ c ⟨(192 * q.val + 1 * (x 0).val) / 192, _⟩ _ = chV m ρ c q x
    rw [hq]
    exact congrArg (chV m ρ c q) (idx2_ext (a := 192) (b := 768) (by
      show (192 * q.val + 1 * (x 0).val) % 192 = (x 0).val
      omega) (by show 0 + 1 * (x 1).val = (x 1).val; omega))

/-- A block given a unit leading axis reads as the block. -/
theorem pay7_apply (v : Vec F S96x768 .bf16) (x : S1x96x768.Idx) : k0_pay7 v x = v (ix2 (n0 := 96) (n1 := 768) (x 1) (x 2)) := by
  unfold k0_pay7
  rw [shapeCast_self]
  have h0 : (x 0).val < 1 := (x 0).isLt
  refine shapeCast_apply v _ x (ix2 (n0 := 96) (n1 := 768) (x 1) (x 2)) ?_
  rw [Shape.rowMajor_val_three, Shape.rowMajor_val_two]
  show (x 1).val * 768 + (x 2).val = ((x 0).val * 96 + (x 1).val) * 768 + (x 2).val
  omega

/-- The own block read off the product is what the own slot 0 is to hold. -/
theorem own_blk (c : Dev nD) (h') :
    (pM.view.readAt (Elt F) (Rect.unit (s := S768x768) ![0, 0] S96x768.size h').toLoadRect (pV m ρ c) : Vec F S96x768 .bf16) = blkV m ρ c 0 := by
  funext y
  unfold blkV
  rw [memP_zero]
  exact congrArg (pV m ρ c) (idx2_ext (a := 768) (b := 768) (by show 0 + 1 * (y 0).val = 96 * 0 + (y 0).val; omega)
    (by show 0 + 1 * (y 1).val = (y 1).val; omega))

/-- The own block copied to slot 0 is what slot 0 is to hold. -/
theorem store_own (c : Dev nD) (f : Vec F S8x96x768 .bf16) (h) :
    ∀ i ∈ (r1M.access (Rect.unit (s := S8x96x768) ![0, 0, 0] S1x96x768.size h)).set,
      (r1M.access (Rect.unit (s := S8x96x768) ![0, 0, 0] S1x96x768.size h)).write (Elt F) f (k0_pay7 (blkV m ρ c 0)) Finset.univ i = r1V m ρ c i :=
  write_on (r1M.access (Rect.unit (s := S8x96x768) ![0, 0, 0] S1x96x768.size h)) f (r1V m ρ c) (k0_pay7 (blkV m ρ c 0)) fun x => by
    have h0 : (x 0).val < 1 := (x 0).isLt
    refine Eq.trans (congrArg (r1V m ρ c) (?_ : _ = ix3 (n0 := 8) (n1 := 96) (n2 := 768) 0 (x 1) (x 2))) (pay7_apply (blkV m ρ c 0) x).symm
    exact idx3_ext (a := 8) (b := 96) (d := 768)
      (by show 0 + 1 * (x 0).val = 0; omega) (by show 0 + 1 * (x 1).val = (x 1).val; omega) (by show 0 + 1 * (x 2).val = (x 2).val; omega)

/-! ## The program's loads -/

/-- The rows of product `q`, at the program's offsets. -/
theorem load_a2 (c : Dev nD) (q : Fin 4) (h) :
    a2M.view.readAt (Elt F) (Rect.unit (s := S1536x384) (k0_off1 c (BitVec.ofNat 32 (192 * q.val))) S192x384.size h).toLoadRect (a2V m ρ c) = awV m ρ c q := by
  have e0 : k0_off1 c (BitVec.ofNat 32 (192 * q.val)) 0 = 384 * ((c.val / 8) % 2) + 96 * ((c.val % 8) % 4) + 192 * q.val := congrFun (k0_off1_eq c q) 0
  have e1 : k0_off1 c (BitVec.ofNat 32 (192 * q.val)) 1 = 0 := congrFun (k0_off1_eq c q) 1
  funext x
  refine congrArg (a2V m ρ c) (idx2_ext (a := 1536) (b := 384) ?_ ?_)
  · show k0_off1 c (BitVec.ofNat 32 (192 * q.val)) 0 + 1 * (x 0).val = 96 * (4 * ((c.val / 8) % 2) + (c.val % 8) % 4) + 192 * q.val + (x 0).val
    omega
  · show k0_off1 c (BitVec.ofNat 32 (192 * q.val)) 1 + 1 * (x 1).val = (x 1).val
    omega
/-- Slots 4 to 7, -/
theorem load_hi (c : Dev nD) (h) :
    r1M.view.readAt (Elt F) (Rect.unit (s := S8x96x768) ![4, 0, 0] S4x96x768.size h).toLoadRect (r1V m ρ c) = hiV m ρ c := by
  funext x
  exact congrArg (r1V m ρ c) (idx3_ext (a := 8) (b := 96) (d := 768) (by show 4 + 1 * (x 0).val = 4 + (x 0).val; omega)
    (by show 0 + 1 * (x 1).val = (x 1).val; omega) (by show 0 + 1 * (x 2).val = (x 2).val; omega))
/-- slots 0 to 3, -/
theorem load_lo (c : Dev nD) (h) :
    r1M.view.readAt (Elt F) (Rect.unit (s := S8x96x768) ![0, 0, 0] S4x96x768.size h).toLoadRect (r1V m ρ c) = loV m ρ c := by
  funext x
  exact congrArg (r1V m ρ c) (idx3_ext (a := 8) (b := 96) (d := 768) (by show 0 + 1 * (x 0).val = (x 0).val; omega)
    (by show 0 + 1 * (x 1).val = (x 1).val; omega) (by show 0 + 1 * (x 2).val = (x 2).val; omega))
/-- the own quarter, -/
theorem load_s (c : Dev nD) (h) :
    sM.view.readAt (Elt F) (Rect.unit (s := S96x768) (k0_off3 c) S24x768.size h).toLoadRect (sV m ρ c) = ownV m ρ c := by
  have e0 : k0_off3 c 0 = 48 * ((c.val / 8) / 2) + 24 * ((c.val % 8) / 4) := congrFun (k0_off3_eq c) 0
  have e1 : k0_off3 c 1 = 0 := congrFun (k0_off3_eq c) 1
  funext x
  refine congrArg (sV m ρ c) (idx2_ext (a := 96) (b := 768) ?_ ?_)
  · show k0_off3 c 0 + 1 * (x 0).val = 24 * (2 * ((c.val / 8) / 2) + (c.val % 8) / 4) + (x 0).val
    omega
  · show k0_off3 c 1 + 1 * (x 1).val = (x 1).val
    omega
/-- and slots 1 to 3 of the second landing buffer. -/
theorem load_oth (c : Dev nD) (h) :
    r2M.view.readAt (Elt F) (Rect.unit (s := S4x24x768) ![1, 0, 0] S3x24x768.size h).toLoadRect (r2V m ρ c) = othV m ρ c := by
  funext x
  exact congrArg (r2V m ρ c) (idx3_ext (a := 4) (b := 24) (d := 768) (by show 1 + 1 * (x 0).val = 1 + (x 0).val; omega)
    (by show 0 + 1 * (x 1).val = (x 1).val; omega) (by show 0 + 1 * (x 2).val = (x 2).val; omega))

end Cert.KernelIdealRun

end
-- ==== Proof.KernelIdealProto.lean ====
/-
The protocol of the kernel: for every semaphore who waits, who raises it, by how much, and what each raise hands over.

* The barrier semaphore of device `d` is raised by one by each of the seven other members of its cube and by each of the
  three other devices of its number. The member `s` places on hands over its landing slot `-s` — the one `d` will write —,
  the device `u` cubes on its landing slot `-u` of the second buffer. `d` waits for all ten.
* Arrival semaphore `s` of device `d` is raised by the transfer of the member `s` places on; it hands `d` its slot `s`
  holding that member's block `-s`. The departure semaphore `t` hands the sender its block `t` back.
* The second phase likewise, by quarters and cubes.
-/
module

public import proofs.«01_k».proof.Proof.KernelIdealVals

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duty names: a member's distance, or a cube's. -/
abbrev Du : Type := Fin 8 ⊕ Fin 4
abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The slots as resources -/

/-- Block `t` of the product buffer at contents `f`; -/
def pPts (c : Dev nD) (t : Fin 8) (f : Vec F S768x768 .bf16) : sProp 𝕄 := (c : Thread nD τ).loc cc0_scratch2 ↦[(pSl t).view.set]{fullShare} f
/-- slot `s` of the first landing buffer; -/
def r1Pts (c : Dev nD) (s : Fin 8) (f : Vec F S8x96x768 .bf16) : sProp 𝕄 := (c : Thread nD τ).loc cc0_scratch3 ↦[(r1Sl s).view.set]{fullShare} f
/-- quarter `v` of the rounded sum; -/
def sbPts (c : Dev nD) (v : Fin 4) (f : Vec F S96x768 .bf16) : sProp 𝕄 := (c : Thread nD τ).loc cc0_scratch5 ↦[(sbSl v).view.set]{fullShare} f
/-- slot `s` of the second landing buffer. -/
def r2Pts (c : Dev nD) (s : Fin 4) (f : Vec F S4x24x768 .bf16) : sProp 𝕄 := (c : Thread nD τ).loc cc0_scratch6 ↦[(r2Sl s).view.set]{fullShare} f
/-- A landing slot holding anything. -/
def r1Any (c : Dev nD) (s : Fin 8) : sProp 𝕄 := iprop(∃ f, r1Pts (F := F) c s f)
def r2Any (c : Dev nD) (s : Fin 4) : sProp 𝕄 := iprop(∃ f, r2Pts (F := F) c s f)

instance (c : Dev nD) (t f) : BI.Storable (upEmb : UEmb _ 𝕄) (pPts (F := F) c t f) := by unfold pPts; infer_instance
instance (c : Dev nD) (t f) : BI.Storable (upEmb : UEmb _ 𝕄) (r1Pts (F := F) c t f) := by unfold r1Pts; infer_instance
instance (c : Dev nD) (t f) : BI.Storable (upEmb : UEmb _ 𝕄) (sbPts (F := F) c t f) := by unfold sbPts; infer_instance
instance (c : Dev nD) (t f) : BI.Storable (upEmb : UEmb _ 𝕄) (r2Pts (F := F) c t f) := by unfold r2Pts; infer_instance
instance (c : Dev nD) (t) : BI.Storable (upEmb : UEmb _ 𝕄) (r1Any (F := F) c t) := by unfold r1Any; infer_instance
instance (c : Dev nD) (t) : BI.Storable (upEmb : UEmb _ 𝕄) (r2Any (F := F) c t) := by unfold r2Any; infer_instance

/-! ## The schedule -/

/-- The transfers' semaphores in use: those of distance 0 are not. -/
def used (q : DmaSem sig) : Bool := decide (3 ≤ q.val ∧ q.val ≠ 3 ∧ q.val ≠ 11 ∧ q.val ≠ 19 ∧ q.val ≠ 23)

/-- The barrier's ten duties. -/
def barD : Finset Du := Finset.univ.filter fun d => d ≠ .inl 0 ∧ d ≠ .inr 0

/-- What a transfer's semaphore hands over. -/
def dmaPay (c : Dev nD) (q : DmaSem sig) : sProp 𝕄 :=
  if q.val < 11 then pPts c ⟨(q.val - 3) % 8, Nat.mod_lt _ (by decide)⟩ (pV m ρ c)
  else if q.val < 19 then r1Pts c ⟨(q.val - 11) % 8, Nat.mod_lt _ (by decide)⟩ (r1V m ρ c)
  else if q.val < 23 then sbPts c (C c + ⟨(q.val - 19) % 4, Nat.mod_lt _ (by decide)⟩) (sbV m ρ c)
  else r2Pts c ⟨(q.val - 23) % 4, Nat.mod_lt _ (by decide)⟩ (r2V m ρ c)

/-- What a barrier duty hands over. -/
def barPay (c : Dev nD) : Du → sProp 𝕄
  | .inl s => r1Any (memP c s) (-s)
  | .inr u => r2Any (cubP c u) (-u)

def sched : Rounds.Schedule (GSem nD τ sig) Du 𝕄 where
  duties g r := if r = 0 ∧ g.1.2 = .tc then (match g.2 with
    | .reg _ => barD
    | .dma q => if used q then {.inl 0} else ∅) else ∅
  unitless _ := False
  amount g _ _ := match g.2 with
    | .reg _ => 1
    | .dma q => if q.val < 19 then N1 else N2
  payload g _ d := match g.2 with
    | .reg _ => barPay g.1.1 d
    | .dma q => dmaPay m ρ g.1.1 q
  amount_pos g _ _ _ := by
    rcases g with ⟨_, _ | q⟩
    · exact Nat.one_pos
    · show 0 < if q.val < 19 then N1 else N2
      split
      · exact N1_pos
      · exact N2_pos

instance sched_storable (g : GSem nD τ sig) (r : ℕ) (d : Du) : BI.Storable (upEmb : UEmb _ 𝕄) ((sched (F := F) m ρ).payload g r d) := by
  rcases g with ⟨th, _ | q⟩
  · show BI.Storable upEmb (barPay th.1 d)
    rcases d with s | u
    · show BI.Storable upEmb (r1Any (memP th.1 s) (-s)); infer_instance
    · show BI.Storable upEmb (r2Any (cubP th.1 u) (-u)); infer_instance
  · show BI.Storable upEmb (dmaPay m ρ th.1 q)
    unfold dmaPay
    (repeat' split) <;> infer_instance

section Sched
variable (c : Dev nD)

theorem duties_bar : (sched (F := F) m ρ).duties (barC c) 0 = barD := by dsimp only [sched]; exact if_pos ⟨rfl, rfl⟩
theorem duties_dma (q : DmaSem sig) (h : used q = true) : (sched (F := F) m ρ).duties (dC c q) 0 = {.inl 0} := by
  dsimp only [sched]; exact (if_pos ⟨rfl, rfl⟩).trans (if_pos h)
theorem duties_unused (q : DmaSem sig) (h : used q = false) : ∀ r, 0 ≤ r → (sched (F := F) m ρ).duties (dC c q) r = ∅ := fun r _ => by
  show (if r = 0 ∧ _ then (if used q then ({.inl 0} : Finset Du) else ∅) else ∅) = ∅
  rw [h]; split <;> rfl
theorem duties_later (g : GSem nD τ sig) : ∀ r, 1 ≤ r → (sched (F := F) m ρ).duties g r = ∅ :=
  fun r hr => if_neg fun h => by omega

theorem amount_dma1 (q : DmaSem sig) (h : q.val < 19) (d) : (sched (F := F) m ρ).amount (dC c q) 0 d = N1 := if_pos h
theorem amount_dma2 (q : DmaSem sig) (h : ¬ q.val < 19) (d) : (sched (F := F) m ρ).amount (dC c q) 0 d = N2 := if_neg h

theorem expect_bar : (sched (F := F) m ρ).expect (barC c) 0 = 10 := by
  unfold Schedule.expect Schedule.amountOf
  rw [duties_bar]
  show ∑ d ∈ barD, 1 = 10
  decide
theorem expect_dma1 (q : DmaSem sig) (h : used q = true) (h' : q.val < 19) : (sched (F := F) m ρ).expect (dC c q) 0 = N1 := by
  unfold Schedule.expect Schedule.amountOf; rw [duties_dma m ρ c q h, Finset.sum_singleton, amount_dma1 m ρ c q h']
theorem expect_dma2 (q : DmaSem sig) (h : used q = true) (h' : ¬ q.val < 19) : (sched (F := F) m ρ).expect (dC c q) 0 = N2 := by
  unfold Schedule.expect Schedule.amountOf; rw [duties_dma m ρ c q h, Finset.sum_singleton, amount_dma2 m ρ c q h']

theorem used_S1 : ∀ t : Fin 8, t ≠ 0 → used (qS1 t) = true := by decide
theorem used_R1 : ∀ s : Fin 8, s ≠ 0 → used (qR1 s) = true := by decide
theorem used_S2 : ∀ u : Fin 4, u ≠ 0 → used (qS2 u) = true := by decide
theorem used_R2 : ∀ s : Fin 4, s ≠ 0 → used (qR2 s) = true := by decide
theorem lt_S1 (t : Fin 8) : (qS1 t).val < 19 := by show 3 + t.val < 19; omega
theorem lt_R1 (t : Fin 8) : (qR1 t).val < 19 := by show 11 + t.val < 19; omega
theorem lt_S2 (t : Fin 4) : ¬ (qS2 t).val < 19 := by show ¬ 19 + t.val < 19; omega
theorem lt_R2 (t : Fin 4) : ¬ (qR2 t).val < 19 := by show ¬ 23 + t.val < 19; omega

theorem dmaPay_S1 (t : Fin 8) : dmaPay m ρ c (qS1 t) = pPts c t (pV m ρ c) := by
  unfold dmaPay
  rw [if_pos (show 3 + t.val < 11 by omega)]
  exact congrArg (fun t => pPts c t (pV m ρ c)) (Fin.ext (by show (3 + t.val - 3) % 8 = t.val; omega))
theorem dmaPay_R1 (s : Fin 8) : dmaPay m ρ c (qR1 s) = r1Pts c s (r1V m ρ c) := by
  unfold dmaPay
  rw [if_neg (show ¬ 11 + s.val < 11 by omega), if_pos (show 11 + s.val < 19 by omega)]
  exact congrArg (fun t => r1Pts c t (r1V m ρ c)) (Fin.ext (by show (11 + s.val - 11) % 8 = s.val; omega))
theorem dmaPay_S2 (u : Fin 4) : dmaPay m ρ c (qS2 u) = sbPts c (C c + u) (sbV m ρ c) := by
  unfold dmaPay
  rw [if_neg (show ¬ 19 + u.val < 11 by omega), if_neg (show ¬ 19 + u.val < 19 by omega), if_pos (show 19 + u.val < 23 by omega)]
  exact congrArg (fun t => sbPts c (C c + t) (sbV m ρ c)) (Fin.ext (by show (19 + u.val - 19) % 4 = u.val; omega))
theorem dmaPay_R2 (s : Fin 4) : dmaPay m ρ c (qR2 s) = r2Pts c s (r2V m ρ c) := by
  unfold dmaPay
  rw [if_neg (show ¬ 23 + s.val < 11 by omega), if_neg (show ¬ 23 + s.val < 19 by omega), if_neg (show ¬ 23 + s.val < 23 by omega)]
  exact congrArg (fun t => r2Pts c t (r2V m ρ c)) (Fin.ext (by show (23 + s.val - 23) % 4 = s.val; omega))

/-- All a transfer's semaphore hands its waiter; -/
theorem rest_dma (q : DmaSem sig) (h : used q = true) :
    bigSep ((sched (F := F) m ρ).duties (dC c q) 0 \ ∅) (fun d => (sched (F := F) m ρ).payload (dC c q) 0 d) = dmaPay m ρ c q := by
  rw [Finset.sdiff_empty, duties_dma m ρ c q h, bigSep_singleton]; rfl
/-- and all the barrier's. -/
theorem rest_bar :
    bigSep ((sched (F := F) m ρ).duties (barC c) 0 \ ∅) (fun d => (sched (F := F) m ρ).payload (barC c) 0 d)
      = (iprop(r1Any (memP c 1) (-1) ∗ r1Any (memP c 2) (-2) ∗ r1Any (memP c 3) (-3) ∗ r1Any (memP c 4) (-4) ∗ r1Any (memP c 5) (-5)
          ∗ r1Any (memP c 6) (-6) ∗ r1Any (memP c 7) (-7) ∗ r2Any (cubP c 1) (-1) ∗ r2Any (cubP c 2) (-2) ∗ r2Any (cubP c 3) (-3)) : sProp 𝕄) := by
  rw [Finset.sdiff_empty, duties_bar]
  rw [bigSep_eq_bigSepL_of_eq (S := barD) ([.inl 1, .inl 2, .inl 3, .inl 4, .inl 5, .inl 6, .inl 7, .inr 1, .inr 2, .inr 3] : List Du) (by decide) (by decide)]
  rfl

end Sched

/-! ## What a device owes -/

/-- A raise a device is to make: of a member's barrier, of a cube's, by a transfer of either phase. -/
inductive Ob | sigM (t : Fin 8) | sigC (u : Fin 4) | snd1 (t : Fin 8) | snd2 (u : Fin 4)
deriving DecidableEq

namespace Ob
/-- The semaphore raised, -/
def cell (c : Dev nD) : Ob → GSem nD τ sig
  | sigM t => barC (memP c t) | sigC u => barC (cubP c u) | snd1 t => dC (memP c t) (qR1 (-t)) | snd2 u => dC (cubP c u) (qR2 (-u))
/-- the amount, -/
def amt : Ob → ℕ | sigM _ | sigC _ => 1 | snd1 _ => N1 | snd2 _ => N2
/-- and its level. -/
def lev : Ob → ℕ | sigM _ | sigC _ => 1 | snd1 _ => 2 | snd2 _ => 3
end Ob

/-- The tally of a list of raises. -/
def sumO (c : Dev nD) : List Ob → CellTallies nD τ sig Unit
  | [] => 0
  | x :: l => sumO c l + tallyAt (x.cell c) () x.amt

/-- The transfers of the second phase, all transfers, and all raises, in program order. -/
abbrev obs2 : List Ob := [.snd2 1, .snd2 2, .snd2 3]
abbrev obs1 : List Ob := .snd1 1 :: .snd1 2 :: .snd1 3 :: .snd1 4 :: .snd1 5 :: .snd1 6 :: .snd1 7 :: obs2
abbrev obs : List Ob := .sigM 1 :: .sigM 2 :: .sigM 3 :: .sigM 4 :: .sigM 5 :: .sigM 6 :: .sigM 7 :: .sigC 1 :: .sigC 2 :: .sigC 3 :: obs1

def O₀ (c : Dev nD) : CellTallies nD τ sig Unit := sumO c obs

def L (g : GSem nD τ sig) : Finset Unit := if g.1.2 = .tc then {()} else ∅
/-- Staging and departures at 0, the barrier at 1, arrivals at 2 and 3. -/
def lv (g : GSem nD τ sig) (_ : Unit) : ℕ := match g.2 with
  | .reg _ => 1
  | .dma q => if 23 ≤ q.val then 3 else if 11 ≤ q.val ∧ q.val < 19 then 2 else 0

theorem L_of_ne (g : GSem nD τ sig) (h : g.1.2 ≠ .tc) : L g = ∅ := if_neg h
theorem L_tc (c : Dev nD) (sm : SemLoc sig) : L ((c : Thread nD τ), sm) = {()} := if_pos rfl

theorem Ob.cell_tc (c : Dev nD) (x : Ob) : (x.cell c).1.2 = .tc := by cases x <;> rfl
theorem Ob.lv_cell (c : Dev nD) (x : Ob) : lv (x.cell c) () = x.lev := by
  cases x with
  | sigM t => rfl
  | sigC t => rfl
  | snd1 t =>
    show (if 23 ≤ 11 + (-t).val then 3 else if 11 ≤ 11 + (-t).val ∧ 11 + (-t).val < 19 then 2 else 0) = 2
    rw [if_neg (by omega), if_pos (by omega)]
  | snd2 u => exact if_pos (by show 23 ≤ 23 + (-u).val; omega)

/-- A tally of raises is positive only where one of them is made. -/
theorem sumO_pos {c : Dev nD} {g : GSem nD τ sig} {u : Unit} : ∀ {l : List Ob}, 0 < sumO c l g u → ∃ x ∈ l, g = x.cell c
  | [], h => absurd h (Nat.lt_irrefl 0)
  | x :: l, h => by
    have h' : 0 < sumO c l g u + tallyAt (x.cell c) () x.amt g u := by
      have := h; unfold sumO at this; rwa [Pi.add_apply, Finsupp.add_apply] at this
    by_cases hg : g = x.cell c
    · exact ⟨x, List.mem_cons_self, hg⟩
    · rw [tallyAt_apply, if_neg (fun h => hg h.1)] at h'
      obtain ⟨y, hy, e⟩ := sumO_pos (l := l) h'
      exact ⟨y, List.mem_cons_of_mem _ hy, e⟩

/-- A device may wait on a semaphore below all it still is to raise. -/
theorem mayWait (c : Dev nD) (sm : SemLoc sig) (l : List Ob) (k : ℕ) (hs : lv ((c : Thread nD τ), sm) () ≤ k) (h : ∀ x ∈ l, k < x.lev) :
    (levAts L lv : sProp 𝕄) ⊢ MayWait (c : Thread nD τ) sm () (sumO c l) :=
  MayOwe.of_cut (L := L) (lev := lv) k (fun p hp => by rw [Finset.mem_singleton.mp hp, L_tc]; exact Finset.mem_singleton_self _)
    (fun g u hg => by
      obtain ⟨x, -, rfl⟩ := sumO_pos hg
      rw [show L (x.cell c) = {()} from if_pos (x.cell_tc c)]; exact Finset.mem_singleton_self _)
    (fun p hp => by rw [Finset.mem_singleton.mp hp]; exact hs)
    (fun g u hg => by
      obtain ⟨x, hx, rfl⟩ := sumO_pos hg
      exact (x.lv_cell c).symm ▸ h x hx)

/-! ## The semaphores' invariants -/

/-- A device's semaphores: the kernel's own twenty-four, and the barrier. -/
abbrev CI : Type := Fin 24 ⊕ Unit
abbrev osem : Fin 24 → SemLoc sig := fun k => .dma ⟨3 + k.val, by show _ < 27; omega⟩
abbrev csem : CI → SemLoc sig := Sum.elim osem fun _ => .reg barS
abbrev kcell (ck : Dev nD × CI) : GSem nD τ sig := ((ck.1 : Thread nD τ), csem ck.2)

/-- What every step may use: each semaphore's invariant, that it has reached round 0, and the levels. -/
def Ctx : sProp 𝕄 :=
  iprop((bigSep Finset.univ fun ck : Dev nD × CI => iprop(∃ κ : ℕ, cellInv ER (sched m ρ) κ (kcell ck)))
    ∗ (bigSep Finset.univ fun ck : Dev nD × CI => reached ER (kcell ck) 0) ∗ levAts L lv)

instance Ctx_persistent : BI.Persistent (Ctx (F := F) m ρ) := by unfold Ctx; infer_instance

/-- One semaphore's share of it. -/
def Cell (g : GSem nD τ sig) : sProp 𝕄 := iprop((∃ κ : ℕ, cellInv ER (sched m ρ) κ g) ∗ reached ER g 0 ∗ levAts L lv)
instance Cell_persistent (g) : BI.Persistent (Cell (F := F) m ρ g) := by unfold Cell; infer_instance

theorem inv_at (ck : Dev nD × CI) :
    (bigSep Finset.univ fun ck : Dev nD × CI => (iprop(∃ κ : ℕ, cellInv ER (sched m ρ) κ (kcell ck)) : sProp 𝕄))
      ⊢ iprop(∃ κ : ℕ, cellInv ER (sched m ρ) κ (kcell ck)) := bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem Ctx_cell (ck : Dev nD × CI) : Ctx (F := F) m ρ ⊢ Cell m ρ (kcell ck) := by
  unfold Ctx Cell
  iintro ⟨#HI, #HR, #HL⟩
  isplitl []; · iapply (inv_at m ρ ck); iexact HI
  isplitl []; · iapply (reached_at (F := F) ck); iexact HR
  iexact HL
theorem Ctx_bar (c : Dev nD) : Ctx (F := F) m ρ ⊢ Cell m ρ (barC c) := Ctx_cell m ρ (c, .inr ())
theorem Ctx_dma (c : Dev nD) (q : DmaSem sig) (h : 3 ≤ q.val) : Ctx (F := F) m ρ ⊢ Cell m ρ (dC c q) := by
  have hq : q.val < 27 := q.isLt
  have e : kcell (c, .inl ⟨q.val - 3, by omega⟩) = dC c q :=
    congrArg (fun q : DmaSem sig => dC c q) (Fin.ext (by show 3 + (q.val - 3) = q.val; omega))
  exact e ▸ Ctx_cell m ρ (c, .inl ⟨q.val - 3, by omega⟩)

/-- What a device owes, under whatever it has waited for. -/
def owesA (c : Dev nD) (l : List Ob) : sProp 𝕄 := iprop(∃ W, owes (c : Thread nD τ) (sumO c l) W)

end Cert.KernelIdealRun

end
-- ==== Proof.KernelIdealSteps.lean ====
/-
The effects of the body as rules over the protocol: each signal, transfer, wait, load and store the program makes, from
what it takes to what it gives, beside a frame.
-/
module

public import proofs.«01_k».proof.Proof.KernelIdealProto

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What it takes for a program at device `c` to end in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A rule that hands `B` to the rest of the program, beside a frame. -/
theorem wand_step {A B W W' Fr : sProp 𝕄} (e : A ⊢ iprop((B -∗ W) -∗ W')) (h : iprop(B ∗ Fr) ⊢ W) : iprop(A ∗ Fr) ⊢ W' := by
  iintro ⟨HA, HF⟩
  ihave HK := e $$ HA
  iapply HK
  iintro HB
  iapply h
  isplitl [HB] <;> iassumption

/-! ## The ghost state of one effect -/

/-- To signal the member `t` on; -/
def SgM (c : Dev nD) (t : Fin 8) : sProp 𝕄 := dutyTok ER (barC (memP c t)) 0 (.inl (-t))
/-- the cube `u` on; -/
def SgC (c : Dev nD) (u : Fin 4) : sProp 𝕄 := dutyTok ER (barC (cubP c u)) 0 (.inr (-u))
/-- to send block `t`; -/
def T1 (c : Dev nD) (t : Fin 8) : sProp 𝕄 :=
  iprop(dutyTok ER (dC c (qS1 t)) 0 (.inl 0) ∗ dutyTok ER (dC (memP c t) (qR1 (-t))) 0 (.inl 0) ∗ atPos ER (dC c (qS1 t)) 0 ∅ 0)
/-- to send the quarter for the cube `u` on; -/
def T2 (c : Dev nD) (u : Fin 4) : sProp 𝕄 :=
  iprop(dutyTok ER (dC c (qS2 u)) 0 (.inl 0) ∗ dutyTok ER (dC (cubP c u) (qR2 (-u))) 0 (.inl 0) ∗ atPos ER (dC c (qS2 u)) 0 ∅ 0)
/-- to wait for a transfer; -/
def Wq (c : Dev nD) (q : DmaSem sig) (N : ℕ) : sProp 𝕄 := iprop(atPos ER (dC c q) 0 ∅ 0 ∗ cred (tallyAt (dC c q) () N))
/-- to wait for the barrier. -/
def WB (c : Dev nD) : sProp 𝕄 := iprop(atPos ER (barC c) 0 ∅ 0 ∗ cred (tallyAt (barC c) () 10))
/-- A semaphore at zero. -/
def Z (c : Dev nD) (q : DmaSem sig) : sProp 𝕄 := semVal (dC c q) 0
def ZB (c : Dev nD) : sProp 𝕄 := semVal (barC c) 0

/-! ## Signals -/

theorem pay_bar_mem (c : Dev nD) (t : Fin 8) : (sched (F := F) m ρ).payload (barC (memP c t)) 0 (.inl (-t)) = r1Any c t := by
  show r1Any (memP (memP c t) (-t)) (-(-t)) = r1Any c t
  rw [memP_neg, nn8]
theorem pay_bar_cub (c : Dev nD) (u : Fin 4) : (sched (F := F) m ρ).payload (barC (cubP c u)) 0 (.inr (-u)) = r2Any c u := by
  show r2Any (cubP (cubP c u) (-u)) (-(-u)) = r2Any c u
  rw [cubP_neg, nn4]
theorem mem_barD_l : ∀ t : Fin 8, t ≠ 0 → (.inl (-t) : Du) ∈ barD := by decide
theorem mem_barD_r : ∀ u : Fin 4, u ≠ 0 → (.inr (-u) : Du) ∈ barD := by decide

section
variable {α : Type} {k : PUnit → Prog (TpuEff nD τ sig (Elt F) Λ₀ .tc) α} {l : List Ob} (c : Dev nD)

/-- Signalling the member `t` on hands it the own landing slot `t`. -/
theorem signal_mem {Q : α → sProp 𝕄} {Fr : sProp 𝕄} (t : Fin 8) (ht : t ≠ 0) {n : Dev nD} (hn : n = memP c t)
    (h : iprop((Ctx m ρ ∗ owesA c l) ∗ Fr) ⊢ WP c (k ⟨⟩) Q) :
    iprop((Ctx m ρ ∗ owesA c (.sigM t :: l) ∗ SgM c t ∗ r1Any c t) ∗ Fr) ⊢ WP c (.op (.semSignal (n : Thread nD τ) barS (1#32 : BitVec 32).toInt) k) Q := by
  subst hn
  unfold owesA SgM
  iintro ⟨⟨#HC, ⟨%W, HO⟩, Ht, Hp⟩, HF⟩
  ihave #Hc := Ctx_bar m ρ (memP c t) $$ HC
  unfold Cell
  icases Hc with ⟨⟨%κ, #HI⟩, #HR, -⟩
  iapply (Rounds.wp_signal 𝒱₀ ER (sched m ρ) (c : Thread nD τ) none (dst := (memP c t : Thread nD τ)) (κ := κ) (r := 0) (d := .inl (-t)) (k' := 1)
    (by rw [duties_bar]; exact mem_barD_l t ht) rfl () (sumO c l) rfl) $$ [HO Ht Hp]
  · isplitr; · iexact HI
    isplitl [HO]; · iexact HO
    isplitl [Ht]; · iexact Ht
    isplitl [Hp]; · iapply (Entails.of_eq (pay_bar_mem m ρ c t).symm); iexact Hp
    iexact HR
  iintro HO
  iapply h
  isplitr [HF]
  · isplitr; · iexact HC
    unfold owesA; iexists W; iexact HO
  iexact HF

/-- Signalling the cube `u` on hands it the own landing slot `u` of the second buffer. -/
theorem signal_cub {Q : α → sProp 𝕄} {Fr : sProp 𝕄} (u : Fin 4) (hu : u ≠ 0) {n : Dev nD} (hn : n = cubP c u)
    (h : iprop((Ctx m ρ ∗ owesA c l) ∗ Fr) ⊢ WP c (k ⟨⟩) Q) :
    iprop((Ctx m ρ ∗ owesA c (.sigC u :: l) ∗ SgC c u ∗ r2Any c u) ∗ Fr) ⊢ WP c (.op (.semSignal (n : Thread nD τ) barS (1#32 : BitVec 32).toInt) k) Q := by
  subst hn
  unfold owesA SgC
  iintro ⟨⟨#HC, ⟨%W, HO⟩, Ht, Hp⟩, HF⟩
  ihave #Hc := Ctx_bar m ρ (cubP c u) $$ HC
  unfold Cell
  icases Hc with ⟨⟨%κ, #HI⟩, #HR, -⟩
  iapply (Rounds.wp_signal 𝒱₀ ER (sched m ρ) (c : Thread nD τ) none (dst := (cubP c u : Thread nD τ)) (κ := κ) (r := 0) (d := .inr (-u)) (k' := 1)
    (by rw [duties_bar]; exact mem_barD_r u hu) rfl () (sumO c l) rfl) $$ [HO Ht Hp]
  · isplitr; · iexact HI
    isplitl [HO]; · iexact HO
    isplitl [Ht]; · iexact Ht
    isplitl [Hp]; · iapply (Entails.of_eq (pay_bar_cub m ρ c u).symm); iexact Hp
    iexact HR
  iintro HO
  iapply h
  isplitr [HF]
  · isplitr; · iexact HC
    unfold owesA; iexists W; iexact HO
  iexact HF

/-! ## Waits -/

/-- The barrier passed: the slots this device is to write, of all its peers, and the semaphore done with. -/
theorem wait_bar {Q : α → sProp 𝕄} {Fr : sProp 𝕄} (hl : ∀ x ∈ l, 1 < x.lev)
    (h : iprop((Ctx m ρ ∗ owesA c l ∗ ZB c
        ∗ (r1Any (memP c 1) (-1) ∗ r1Any (memP c 2) (-2) ∗ r1Any (memP c 3) (-3) ∗ r1Any (memP c 4) (-4) ∗ r1Any (memP c 5) (-5)
          ∗ r1Any (memP c 6) (-6) ∗ r1Any (memP c 7) (-7) ∗ r2Any (cubP c 1) (-1) ∗ r2Any (cubP c 2) (-2) ∗ r2Any (cubP c 3) (-3))) ∗ Fr) ⊢ WP c (k ⟨⟩) Q) :
    iprop((Ctx m ρ ∗ owesA c l ∗ WB c) ∗ Fr) ⊢ WP c (.op (.semWait barS (10#32 : BitVec 32).toInt) k) Q := by
  unfold owesA WB
  iintro ⟨⟨#HC, ⟨%W, HO⟩, Hat, Hcr⟩, HF⟩
  ihave #Hc := Ctx_bar m ρ c $$ HC
  unfold Cell
  icases Hc with ⟨⟨%κ, #HI⟩, #HR, #HL⟩
  ihave #HM := (mayWait (F := F) c (.reg barS) l 1 (le_refl 1) hl) $$ HL
  iapply (Rounds.wp_wait_rest_token 𝒱₀ ER (sched m ρ) (c : Thread nD τ) none (κ := κ) (sm := .reg barS) (k' := 10)
    (wpE_semWait_eq 𝒱₀ (c : Thread nD τ) none Set.univ) (Set.mem_univ _) () (O := sumO c l) (W := W) (R := 0) (m := 0) (T := ∅)
    (by rw [Nat.zero_add]; exact (expect_bar m ρ c).symm)) $$ [HO Hat Hcr]
  · isplitr; · iexact HI
    isplitl [Hcr]; · iexact Hcr
    isplitl [HO]; · iexact HO
    isplitr; · iexact HM
    iexact Hat
  iintro ⟨HO, Hat, -, Hpay⟩
  imod (Rounds.cell_close ER (sched m ρ) (Set.mem_univ κ) (fun h => h) (g := barC c) (R := 1) (duties_later m ρ (barC c))) $$ [Hat] with HZ
  · isplitr; · iexact HI
    iexact Hat
  ihave Hp := (Entails.of_eq (rest_bar m ρ c)) $$ Hpay
  iapply h
  isplitr [HF]
  · isplitr; · iexact HC
    isplitl [HO]; · unfold owesA; iexists _; iexact HO
    isplitl [HZ]; · unfold ZB; iexact HZ
    iexact Hp
  iexact HF

/-- A transfer waited for: what its semaphore hands over, and the semaphore done with. -/
theorem wait_dma {Q : α → sProp 𝕄} {Fr : sProp 𝕄} (q : DmaSem sig) (N : ℕ) (h3 : 3 ≤ q.val) (hu : used q = true) (hE : (sched (F := F) m ρ).expect (dC c q) 0 = N)
    (lev : ℕ) (hs : lv (dC c q) () ≤ lev) (hl : ∀ x ∈ l, lev < x.lev)
    {sp sp' : Space} {s s' : Shape} {e e' : EltTy} {q' : DmaSem sig} (hq : q' = q)
    {src : Memref sig .tc sp' s' e'} {dst : Memref sig .tc sp s e} {hsrc : src.view.WordExact} {hdst : dst.view.WordExact} (hN : dst.view.dmaCredit = N)
    (h : iprop((Ctx m ρ ∗ owesA c l ∗ Z c q ∗ dmaPay m ρ c q) ∗ Fr) ⊢ WP c (k ⟨⟩) Q) :
    iprop((Ctx m ρ ∗ owesA c l ∗ Wq c q N) ∗ Fr) ⊢ WP c (.op (.waitDma2 q' src dst hsrc hdst) k) Q := by
  subst hq hN
  unfold owesA Wq
  iintro ⟨⟨#HC, ⟨%W, HO⟩, Hat, Hcr⟩, HF⟩
  ihave #Hc := Ctx_dma m ρ c q' h3 $$ HC
  unfold Cell
  icases Hc with ⟨⟨%κ, #HI⟩, #HR, #HL⟩
  ihave #HM := (mayWait (F := F) c (.dma q') l lev hs hl) $$ HL
  iapply (Rounds.wp_wait_rest_token 𝒱₀ ER (sched m ρ) (c : Thread nD τ) none (κ := κ) (sm := .dma q')
    (wpE_waitDma2_eq 𝒱₀ (c : Thread nD τ) none Set.univ) (Set.mem_univ _) () (O := sumO c l) (W := W) (R := 0) (m := 0) (T := ∅)
    (by rw [Nat.zero_add]; exact hE.symm)) $$ [HO Hat Hcr]
  · isplitr; · iexact HI
    isplitl [Hcr]; · iexact Hcr
    isplitl [HO]; · iexact HO
    isplitr; · iexact HM
    iexact Hat
  iintro ⟨HO, Hat, -, Hpay⟩
  imod (Rounds.cell_close ER (sched m ρ) (Set.mem_univ κ) (fun h => h) (g := dC c q') (R := 1) (duties_later m ρ (dC c q'))) $$ [Hat] with HZ
  · isplitr; · iexact HI
    iexact Hat
  ihave Hp := (Entails.of_eq (rest_dma m ρ c q' hu)) $$ Hpay
  iapply h
  isplitr [HF]
  · isplitr; · iexact HC
    isplitl [HO]; · unfold owesA; iexists _; iexact HO
    isplitl [HZ]; · unfold Z; iexact HZ
    iexact Hp
  iexact HF

section
variable {sp sp' : Space} {s s' : Shape} {e e' : EltTy} {q' : DmaSem sig} {src : Memref sig .tc sp' s' e'} {dst : Memref sig .tc sp s e}
  {hsrc : src.view.WordExact} {hdst : dst.view.WordExact}

/-- Slot `r` of the first landing buffer arrives, -/
theorem wait_R1 {Q : α → sProp 𝕄} {Fr : sProp 𝕄} (r : Fin 8) (hr : r ≠ 0) (hl : ∀ x ∈ l, 2 < x.lev) (hq : q' = qR1 r) (hN : dst.view.dmaCredit = N1)
    (h : iprop((Ctx m ρ ∗ owesA c l ∗ Z c (qR1 r) ∗ r1Pts c r (r1V m ρ c)) ∗ Fr) ⊢ WP c (k ⟨⟩) Q) :
    iprop((Ctx m ρ ∗ owesA c l ∗ Wq c (qR1 r) N1) ∗ Fr) ⊢ WP c (.op (.waitDma2 q' src dst hsrc hdst) k) Q :=
  wait_dma m ρ c (qR1 r) N1 (by show 3 ≤ 11 + r.val; omega) (used_R1 r hr) (expect_dma1 m ρ c _ (used_R1 r hr) (lt_R1 r)) 2
    (by show (if 23 ≤ 11 + r.val then 3 else if 11 ≤ 11 + r.val ∧ 11 + r.val < 19 then 2 else 0) ≤ 2
        rw [if_neg (by omega), if_pos (by omega)]) hl hq hN (by rw [dmaPay_R1]; exact h)
/-- block `t` has left, -/
theorem wait_S1 {Q : α → sProp 𝕄} {Fr : sProp 𝕄} (t : Fin 8) (ht : t ≠ 0) (hl : ∀ x ∈ l, 0 < x.lev) (hq : q' = qS1 t) (hN : dst.view.dmaCredit = N1)
    (h : iprop((Ctx m ρ ∗ owesA c l ∗ Z c (qS1 t) ∗ pPts c t (pV m ρ c)) ∗ Fr) ⊢ WP c (k ⟨⟩) Q) :
    iprop((Ctx m ρ ∗ owesA c l ∗ Wq c (qS1 t) N1) ∗ Fr) ⊢ WP c (.op (.waitDma2 q' src dst hsrc hdst) k) Q :=
  wait_dma m ρ c (qS1 t) N1 (by show 3 ≤ 3 + t.val; omega) (used_S1 t ht) (expect_dma1 m ρ c _ (used_S1 t ht) (lt_S1 t)) 0
    (by show (if 23 ≤ 3 + t.val then 3 else if 11 ≤ 3 + t.val ∧ 3 + t.val < 19 then 2 else 0) ≤ 0
        rw [if_neg (by omega), if_neg (by omega)]) hl hq hN (by rw [dmaPay_S1]; exact h)
/-- slot `r` of the second landing buffer arrives, -/
theorem wait_R2 {Q : α → sProp 𝕄} {Fr : sProp 𝕄} (r : Fin 4) (hr : r ≠ 0) (hl : ∀ x ∈ l, 3 < x.lev) (hq : q' = qR2 r) (hN : dst.view.dmaCredit = N2)
    (h : iprop((Ctx m ρ ∗ owesA c l ∗ Z c (qR2 r) ∗ r2Pts c r (r2V m ρ c)) ∗ Fr) ⊢ WP c (k ⟨⟩) Q) :
    iprop((Ctx m ρ ∗ owesA c l ∗ Wq c (qR2 r) N2) ∗ Fr) ⊢ WP c (.op (.waitDma2 q' src dst hsrc hdst) k) Q :=
  wait_dma m ρ c (qR2 r) N2 (by show 3 ≤ 23 + r.val; omega) (used_R2 r hr) (expect_dma2 m ρ c _ (used_R2 r hr) (lt_R2 r)) 3
    (by show (if 23 ≤ 23 + r.val then 3 else if 11 ≤ 23 + r.val ∧ 23 + r.val < 19 then 2 else 0) ≤ 3
        rw [if_pos (by omega)]) hl hq hN (by rw [dmaPay_R2]; exact h)
/-- and the quarter for the cube `u` on has left. -/
theorem wait_S2 {Q : α → sProp 𝕄} {Fr : sProp 𝕄} (u : Fin 4) (hu : u ≠ 0) (hl : ∀ x ∈ l, 0 < x.lev) (hq : q' = qS2 u) (hN : dst.view.dmaCredit = N2)
    (h : iprop((Ctx m ρ ∗ owesA c l ∗ Z c (qS2 u) ∗ sbPts c (C c + u) (sbV m ρ c)) ∗ Fr) ⊢ WP c (k ⟨⟩) Q) :
    iprop((Ctx m ρ ∗ owesA c l ∗ Wq c (qS2 u) N2) ∗ Fr) ⊢ WP c (.op (.waitDma2 q' src dst hsrc hdst) k) Q :=
  wait_dma m ρ c (qS2 u) N2 (by show 3 ≤ 19 + u.val; omega) (used_S2 u hu) (expect_dma2 m ρ c _ (used_S2 u hu) (lt_S2 u)) 0
    (by show (if 23 ≤ 19 + u.val then 3 else if 11 ≤ 19 + u.val ∧ 19 + u.val < 19 then 2 else 0) ≤ 0
        rw [if_neg (by omega), if_neg (by omega)]) hl hq hN (by rw [dmaPay_S2]; exact h)
end

/-! ## Transfers -/

theorem neg8_ne : ∀ t : Fin 8, t ≠ 0 → -t ≠ 0 := by decide
theorem neg4_ne : ∀ t : Fin 4, t ≠ 0 → -t ≠ 0 := by decide

theorem pay_dma (q : DmaSem sig) : (sched (F := F) m ρ).payload (dC c q) 0 (.inl 0) = dmaPay m ρ c q := rfl
theorem pay_S1 (t : Fin 8) : pPts c t (pV m ρ c) ⊢ (sched (F := F) m ρ).payload (dC c (qS1 t)) 0 (.inl 0) :=
  Entails.of_eq ((dmaPay_S1 m ρ c t).symm.trans (pay_dma m ρ c (qS1 t)).symm)
theorem pay_S2 (u : Fin 4) : sbPts c (C c + u) (sbV m ρ c) ⊢ (sched (F := F) m ρ).payload (dC c (qS2 u)) 0 (.inl 0) :=
  Entails.of_eq ((dmaPay_S2 m ρ c u).symm.trans (pay_dma m ρ c (qS2 u)).symm)
theorem pay_R1 (t : Fin 8) (fd : Vec F S8x96x768 .bf16) :
    r1Pts (memP c t) (-t) ((r1Sl (-t)).view.write (Elt F) fd ((pSl t).view.read (Elt F) (pV m ρ c)) Finset.univ)
      ⊢ (sched (F := F) m ρ).payload (dC (memP c t) (qR1 (-t))) 0 (.inl 0) := by
  rw [pay_dma, dmaPay_R1]
  unfold r1Pts
  exact Entails.of_eq (pointsTo_congr (land1 m ρ c t fd))
theorem pay_R2 (u : Fin 4) (fd : Vec F S4x24x768 .bf16) :
    r2Pts (cubP c u) (-u) ((r2Sl (-u)).view.write (Elt F) fd ((sbSl (C c + u)).view.read (Elt F) (sbV m ρ c)) Finset.univ)
      ⊢ (sched (F := F) m ρ).payload (dC (cubP c u) (qR2 (-u))) 0 (.inl 0) := by
  rw [pay_dma, dmaPay_R2]
  unfold r2Pts
  exact Entails.of_eq (pointsTo_congr (land2 m ρ c u fd))
theorem amount_r1 (r : Fin 8) (q : DmaSem sig) : (r1Sl r).view.amount (.dma q) = N1 := rfl
theorem amount_r2 (r : Fin 4) (q : DmaSem sig) : (r2Sl r).view.amount (.dma q) = N2 := rfl

/-- `Rounds.wp_send_pointsTo` for block `t`. -/
theorem send1_core {Q : α → sProp 𝕄} (t : Fin 8) (ht : t ≠ 0) (κ₁ κ₂ : ℕ) (W : Waits sig Unit) (fd : Vec F S8x96x768 .bf16)
    {hsc : (r1Sl (-t) : Memref sig (Dev.tc (memP c t) : Thread nD τ).2.kind .vmem S96x768 .bf16).view.ref.isScScratch = false}
    {hsrc : (pSl t).view.WordExact} {hdst : (r1Sl (-t)).view.WordExact}
    {hsem : DmaTarget.Typed .vmem (.dma (qR1 (-t))) (.remote (Dev.tc (memP c t) : Thread nD τ) (r1Sl (-t) : Memref sig (Dev.tc (memP c t) : Thread nD τ).2.kind .vmem S96x768 .bf16) (.dma (qS1 t)) hsc)} :
    iprop(cellInv ER (sched m ρ) κ₁ (dC c (qS1 t)) ∗ cellInv ER (sched m ρ) κ₂ (dC (memP c t) (qR1 (-t)))
        ∗ pPts c t (pV m ρ c) ∗ r1Pts (memP c t) (-t) fd
        ∗ owes (c : Thread nD τ) (sumO c (.snd1 t :: l)) W
        ∗ dutyTok ER (dC c (qS1 t)) 0 (.inl 0) ∗ reached ER (dC c (qS1 t)) 0
        ∗ dutyTok ER (dC (memP c t) (qR1 (-t))) 0 (.inl 0) ∗ reached ER (dC (memP c t) (qR1 (-t))) 0)
      ⊢ iprop(((cred (tallyAt (dC c (qS1 t)) () N1) ∗ owes (c : Thread nD τ) (sumO c l) W) -∗ WP c (k ⟨⟩) Q)
          -∗ WP c (.op (.enqueueDma (pSl t) (.remote (Dev.tc (memP c t) : Thread nD τ) (r1Sl (-t) : Memref sig (Dev.tc (memP c t) : Thread nD τ).2.kind .vmem S96x768 .bf16) (.dma (qS1 t)) hsc) (.dma (qR1 (-t))) hsrc hdst hsem) k) Q) := by
  have h1 : ((pSl t).view.loc (c : Thread nD τ) ↦[(pSl t).view.set]{fullShare} (pV m ρ c)) ⊢ (sched (F := F) m ρ).payload (dC c (qS1 t)) 0 (.inl 0) := pay_S1 m ρ c t
  have h2 : ((r1Sl (-t)).view.loc (memP c t : Thread nD τ) ↦[(r1Sl (-t)).view.set]{fullShare} ((r1Sl (-t)).view.write (Elt F) fd ((pSl t).view.read (Elt F) (pV m ρ c)) Finset.univ))
      ⊢ (sched (F := F) m ρ).payload (dC (memP c t) (qR1 (-t))) 0 (.inl 0) := pay_R1 m ρ c t fd
  have h3 := Rounds.wp_send_pointsTo (k := k) (Q := Q) (defs := defs₀ (F := F)) 𝒱₀ ER (sched m ρ) (c : Thread nD τ) none (κ₁ := κ₁) (κ₂ := κ₂)
    (Γ := []) (src := pSl t) (c' := (memP c t : Thread nD τ)) (dst := r1Sl (-t)) (sS := .dma (qS1 t)) (sem := .dma (qR1 (-t))) (hsc := hsc) (hsrc := hsrc) (hdst := hdst) (hsem := hsem) (fs := pV m ρ c) (q := fullShare) (Es := Set.univ)
    (r₁ := 0) (r₂ := 0) (d₁ := .inl 0) (d₂ := .inl 0) (fd := fd)
    (by rw [duties_dma m ρ c _ (used_S1 t ht)]; exact Finset.mem_singleton_self _)
    (by rw [duties_dma m ρ _ _ (used_R1 (-t) (neg8_ne t ht))]; exact Finset.mem_singleton_self _)
    () () N1 (amount_r1 (-t) _) (amount_dma1 m ρ c _ (lt_S1 t) _) (amount_dma1 m ρ _ _ (lt_R1 (-t)) _) (sumO c l) rfl (W := W)
    h1 h2
  exact h3

/-- `Rounds.wp_send_pointsTo` for the quarter for the cube `u` on. -/
theorem send2_core {Q : α → sProp 𝕄} (u : Fin 4) (hu : u ≠ 0) (κ₁ κ₂ : ℕ) (W : Waits sig Unit) (fd : Vec F S4x24x768 .bf16)
    {hsc : (r2Sl (-u) : Memref sig (Dev.tc (cubP c u) : Thread nD τ).2.kind .vmem S24x768 .bf16).view.ref.isScScratch = false}
    {hsrc : (sbSl (C c + u)).view.WordExact} {hdst : (r2Sl (-u)).view.WordExact}
    {hsem : DmaTarget.Typed .vmem (.dma (qR2 (-u))) (.remote (Dev.tc (cubP c u) : Thread nD τ) (r2Sl (-u) : Memref sig (Dev.tc (cubP c u) : Thread nD τ).2.kind .vmem S24x768 .bf16) (.dma (qS2 u)) hsc)} :
    iprop(cellInv ER (sched m ρ) κ₁ (dC c (qS2 u)) ∗ cellInv ER (sched m ρ) κ₂ (dC (cubP c u) (qR2 (-u)))
        ∗ sbPts c (C c + u) (sbV m ρ c) ∗ r2Pts (cubP c u) (-u) fd
        ∗ owes (c : Thread nD τ) (sumO c (.snd2 u :: l)) W
        ∗ dutyTok ER (dC c (qS2 u)) 0 (.inl 0) ∗ reached ER (dC c (qS2 u)) 0
        ∗ dutyTok ER (dC (cubP c u) (qR2 (-u))) 0 (.inl 0) ∗ reached ER (dC (cubP c u) (qR2 (-u))) 0)
      ⊢ iprop(((cred (tallyAt (dC c (qS2 u)) () N2) ∗ owes (c : Thread nD τ) (sumO c l) W) -∗ WP c (k ⟨⟩) Q)
          -∗ WP c (.op (.enqueueDma (sbSl (C c + u)) (.remote (Dev.tc (cubP c u) : Thread nD τ) (r2Sl (-u) : Memref sig (Dev.tc (cubP c u) : Thread nD τ).2.kind .vmem S24x768 .bf16) (.dma (qS2 u)) hsc) (.dma (qR2 (-u))) hsrc hdst hsem) k) Q) := by
  have h1 : ((sbSl (C c + u)).view.loc (c : Thread nD τ) ↦[(sbSl (C c + u)).view.set]{fullShare} (sbV m ρ c)) ⊢ (sched (F := F) m ρ).payload (dC c (qS2 u)) 0 (.inl 0) := pay_S2 m ρ c u
  have h2 : ((r2Sl (-u)).view.loc (cubP c u : Thread nD τ) ↦[(r2Sl (-u)).view.set]{fullShare} ((r2Sl (-u)).view.write (Elt F) fd ((sbSl (C c + u)).view.read (Elt F) (sbV m ρ c)) Finset.univ))
      ⊢ (sched (F := F) m ρ).payload (dC (cubP c u) (qR2 (-u))) 0 (.inl 0) := pay_R2 m ρ c u fd
  have h3 := Rounds.wp_send_pointsTo (k := k) (Q := Q) (defs := defs₀ (F := F)) 𝒱₀ ER (sched m ρ) (c : Thread nD τ) none (κ₁ := κ₁) (κ₂ := κ₂)
    (Γ := []) (src := sbSl (C c + u)) (c' := (cubP c u : Thread nD τ)) (dst := r2Sl (-u)) (sS := .dma (qS2 u)) (sem := .dma (qR2 (-u))) (hsc := hsc) (hsrc := hsrc) (hdst := hdst) (hsem := hsem) (fs := sbV m ρ c) (q := fullShare) (Es := Set.univ)
    (r₁ := 0) (r₂ := 0) (d₁ := .inl 0) (d₂ := .inl 0) (fd := fd)
    (by rw [duties_dma m ρ c _ (used_S2 u hu)]; exact Finset.mem_singleton_self _)
    (by rw [duties_dma m ρ _ _ (used_R2 (-u) (neg4_ne u hu))]; exact Finset.mem_singleton_self _)
    () () N2 (amount_r2 (-u) _) (amount_dma2 m ρ c _ (lt_S2 u) _) (amount_dma2 m ρ _ _ (lt_R2 (-u)) _) (sumO c l) rfl (W := W)
    h1 h2
  exact h3

/-- Block `t` sent to the member `t` on. -/
theorem send1 {Q : α → sProp 𝕄} {Fr : sProp 𝕄} (t : Fin 8) (ht : t ≠ 0) {n : Dev nD} (hn : n = memP c t) {src dst : Memref sig .tc .vmem S96x768 .bf16}
    (hs : src = pSl t) (hd : dst = r1Sl (-t)) {qs qr : DmaSem sig} (hqs : qs = qS1 t) (hqr : qr = qR1 (-t))
    {hsc : (dst : Memref sig (Dev.tc n : Thread nD τ).2.kind .vmem S96x768 .bf16).view.ref.isScScratch = false}
    {hsrc : src.view.WordExact} {hdst : dst.view.WordExact}
    {hsem : DmaTarget.Typed .vmem (.dma qr) (.remote (Dev.tc n : Thread nD τ) (dst : Memref sig (Dev.tc n : Thread nD τ).2.kind .vmem S96x768 .bf16) (.dma qs) hsc)}
    (h : iprop((Ctx m ρ ∗ owesA c l ∗ Wq c (qS1 t) N1) ∗ Fr) ⊢ WP c (k ⟨⟩) Q) :
    iprop((Ctx m ρ ∗ owesA c (.snd1 t :: l) ∗ T1 c t ∗ pPts c t (pV m ρ c) ∗ r1Any (memP c t) (-t)) ∗ Fr)
      ⊢ WP c (.op (.enqueueDma src (.remote (Dev.tc n : Thread nD τ) (dst : Memref sig (Dev.tc n : Thread nD τ).2.kind .vmem S96x768 .bf16) (.dma qs) hsc) (.dma qr) hsrc hdst hsem) k) Q := by
  subst hn hs hd hqs hqr
  unfold owesA T1 r1Any
  iintro ⟨⟨#HC, ⟨%W, HO⟩, ⟨Ht1, Ht2, Hat⟩, Hp, ⟨%fd, Hd⟩⟩, HF⟩
  ihave #Hc1 := Ctx_dma m ρ c (qS1 t) (by show 3 ≤ 3 + t.val; omega) $$ HC
  ihave #Hc2 := Ctx_dma m ρ (memP c t) (qR1 (-t)) (by show 3 ≤ 11 + (-t).val; omega) $$ HC
  unfold Cell
  icases Hc1 with ⟨⟨%κ₁, #HI1⟩, #HR1, -⟩
  icases Hc2 with ⟨⟨%κ₂, #HI2⟩, #HR2, -⟩
  iapply (send1_core m ρ c t ht κ₁ κ₂ W fd) $$ [HO Ht1 Ht2 Hp Hd]
  · isplitr; · iexact HI1
    isplitr; · iexact HI2
    isplitl [Hp]; · iexact Hp
    isplitl [Hd]; · iexact Hd
    isplitl [HO]; · iexact HO
    isplitl [Ht1]; · iexact Ht1
    isplitr; · iexact HR1
    isplitl [Ht2]; · iexact Ht2
    iexact HR2
  iintro ⟨Hcr, HO⟩
  iapply h
  isplitr [HF]
  · isplitr; · iexact HC
    isplitl [HO]; · unfold owesA; iexists W; iexact HO
    unfold Wq
    isplitl [Hat] <;> iassumption
  iexact HF

/-- The quarter for the cube `u` on, sent there. -/
theorem send2 {Q : α → sProp 𝕄} {Fr : sProp 𝕄} (u : Fin 4) (hu : u ≠ 0) {n : Dev nD} (hn : n = cubP c u) {src dst : Memref sig .tc .vmem S24x768 .bf16}
    (hs : src = sbSl (C c + u)) (hd : dst = r2Sl (-u)) {qs qr : DmaSem sig} (hqs : qs = qS2 u) (hqr : qr = qR2 (-u))
    {hsc : (dst : Memref sig (Dev.tc n : Thread nD τ).2.kind .vmem S24x768 .bf16).view.ref.isScScratch = false}
    {hsrc : src.view.WordExact} {hdst : dst.view.WordExact}
    {hsem : DmaTarget.Typed .vmem (.dma qr) (.remote (Dev.tc n : Thread nD τ) (dst : Memref sig (Dev.tc n : Thread nD τ).2.kind .vmem S24x768 .bf16) (.dma qs) hsc)}
    (h : iprop((Ctx m ρ ∗ owesA c l ∗ Wq c (qS2 u) N2) ∗ Fr) ⊢ WP c (k ⟨⟩) Q) :
    iprop((Ctx m ρ ∗ owesA c (.snd2 u :: l) ∗ T2 c u ∗ sbPts c (C c + u) (sbV m ρ c) ∗ r2Any (cubP c u) (-u)) ∗ Fr)
      ⊢ WP c (.op (.enqueueDma src (.remote (Dev.tc n : Thread nD τ) (dst : Memref sig (Dev.tc n : Thread nD τ).2.kind .vmem S24x768 .bf16) (.dma qs) hsc) (.dma qr) hsrc hdst hsem) k) Q := by
  subst hn hs hd hqs hqr
  unfold owesA T2 r2Any
  iintro ⟨⟨#HC, ⟨%W, HO⟩, ⟨Ht1, Ht2, Hat⟩, Hp, ⟨%fd, Hd⟩⟩, HF⟩
  ihave #Hc1 := Ctx_dma m ρ c (qS2 u) (by show 3 ≤ 19 + u.val; omega) $$ HC
  ihave #Hc2 := Ctx_dma m ρ (cubP c u) (qR2 (-u)) (by show 3 ≤ 23 + (-u).val; omega) $$ HC
  unfold Cell
  icases Hc1 with ⟨⟨%κ₁, #HI1⟩, #HR1, -⟩
  icases Hc2 with ⟨⟨%κ₂, #HI2⟩, #HR2, -⟩
  iapply (send2_core m ρ c u hu κ₁ κ₂ W fd) $$ [HO Ht1 Ht2 Hp Hd]
  · isplitr; · iexact HI1
    isplitr; · iexact HI2
    isplitl [Hp]; · iexact Hp
    isplitl [Hd]; · iexact Hd
    isplitl [HO]; · iexact HO
    isplitl [Ht1]; · iexact Ht1
    isplitr; · iexact HR1
    isplitl [Ht2]; · iexact Ht2
    iexact HR2
  iintro ⟨Hcr, HO⟩
  iapply h
  isplitr [HF]
  · isplitr; · iexact HC
    isplitl [HO]; · unfold owesA; iexists W; iexact HO
    unfold Wq
    isplitl [Hat] <;> iassumption
  iexact HF
end

/-! ## Loads and stores -/

section
variable {α : Type} (c : Dev nD) {s : Shape} {e : EltTy} {cs : CoreSpace}

/-- A load whose elements are held. -/
theorem load_step {Q : α → sProp 𝕄} {Fr : sProp 𝕄} {mr : Memref sig .tc cs s e} {r : LoadRect s} {hl : mr.view.LoadsAt r} {k : (r.shape.Idx → Elt F e) → Prog (TpuEff nD τ sig (Elt F) Λ₀ .tc) α}
    {S : Finset (Idx (mr.view.loc (c : Thread nD τ)))} {f : Buf (Elt F) (mr.view.loc (c : Thread nD τ))} (v : r.shape.Idx → Elt F e)
    (hS : mr.view.setOn r.set ⊆ S) (hv : mr.view.readAt (Elt F) r f = v)
    (h : iprop((mr.view.loc (c : Thread nD τ) ↦[S]{fullShare} f) ∗ Fr) ⊢ WP c (k v) Q) :
    iprop((mr.view.loc (c : Thread nD τ) ↦[S]{fullShare} f) ∗ Fr) ⊢ WP c (.op (.load mr r hl) k) Q := by
  subst hv
  exact wand_step (wp_load 𝒱₀ (c : Thread nD τ) none Set.univ hS) h

/-- A store to held elements, which come to hold what `g` holds there. -/
theorem store_step {Q : α → sProp 𝕄} {Fr : sProp 𝕄} {mr : Memref sig .tc cs s e} {r : Rect s} {w : r.shape.Idx → Elt F e} {hx : (mr.access r).Stores Finset.univ}
    {hm : (Finset.univ : Finset r.shape.Idx) = Finset.univ ∨ ∀ a, r.stride a = 1} {k : PUnit → Prog (TpuEff nD τ sig (Elt F) Λ₀ .tc) α}
    {S : Finset (Idx ((mr.access r).loc (c : Thread nD τ)))} {f : Buf (Elt F) ((mr.access r).loc (c : Thread nD τ))} (g : Buf (Elt F) ((mr.access r).loc (c : Thread nD τ)))
    (hS : (mr.access r).setOn Finset.univ ⊆ S) (hg : ∀ i ∈ S, (mr.access r).write (Elt F) f w Finset.univ i = g i)
    (h : iprop(((mr.access r).loc (c : Thread nD τ) ↦[S]{fullShare} g) ∗ Fr) ⊢ WP c (k ⟨⟩) Q) :
    iprop(((mr.access r).loc (c : Thread nD τ) ↦[S]{fullShare} f) ∗ Fr) ⊢ WP c (.op (.store mr r w Finset.univ hx hm) k) Q :=
  wand_step (wp_store 𝒱₀ (c : Thread nD τ) none Set.univ hS) (by rw [pointsTo_congr hg]; exact h)
end

end Cert.KernelIdealRun

end
-- ==== Proof.KernelIdealMem.lean ====
/-
The body's accesses: buffers held whole, buffers cut into the slots the protocol hands round, and each load and store of
the program as a rule over these.
-/
module

public import proofs.«01_k».proof.Proof.KernelIdealSteps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A buffer held whole, through the memref that is it. -/
def wh (c : Dev nD) {cs : CoreSpace} {s : Shape} {e : EltTy} (mr : Memref sig .tc cs s e) (X : Buf (Elt F) (mr.view.loc (c : Thread nD τ))) : sProp 𝕄 :=
  mr.view.loc (c : Thread nD τ) ↦{fullShare} X

/-! ## Buffers cut into slots -/

abbrev pS (t : Fin 8) : Finset S768x768.Idx := (pSl t).view.set
abbrev r1S (t : Fin 8) : Finset S8x96x768.Idx := (r1Sl t).view.set
abbrev sbS (v : Fin 4) : Finset S96x768.Idx := (sbSl v).view.set
abbrev r2S (t : Fin 4) : Finset S4x24x768.Idx := (r2Sl t).view.set

theorem cut_p : ∀ t t' : Fin 8, t ≠ t' → Disjoint (pS t) (pS t') := fun t t' h =>
  Finset.disjoint_left.mpr fun i hi hi' => h (Fin.ext ((mem_pSl.mp hi).symm.trans (mem_pSl.mp hi')))
theorem cut_r1 : ∀ t t' : Fin 8, t ≠ t' → Disjoint (r1S t) (r1S t') := fun t t' h =>
  Finset.disjoint_left.mpr fun i hi hi' => h (Fin.ext ((mem_r1Sl.mp hi).symm.trans (mem_r1Sl.mp hi')))
theorem cut_r2 : ∀ t t' : Fin 4, t ≠ t' → Disjoint (r2S t) (r2S t') := fun t t' h =>
  Finset.disjoint_left.mpr fun i hi hi' => h (Fin.ext ((mem_r2Sl.mp hi).symm.trans (mem_r2Sl.mp hi')))
theorem cancel4 : ∀ a u u' : Fin 4, a + u = a + u' → u = u' := by decide
theorem add_sub4 : ∀ a b : Fin 4, a + (b - a) = b := by decide
theorem cut_sb (a : Fin 4) : ∀ u u' : Fin 4, u ≠ u' → Disjoint (sbS (a + u)) (sbS (a + u')) := fun u u' h =>
  Finset.disjoint_left.mpr fun i hi hi' => h (cancel4 a u u' (Fin.ext ((mem_sbSl.mp hi).symm.trans (mem_sbSl.mp hi'))))

/-! The elements that the accesses to slots touch. -/

theorem acc_q {q : Fin 4} {i : S768x768.Idx} : i ∈ (pM.access (qR q)).set ↔ (i 0).val / 192 = q.val :=
  (ValueKit.mem_set_slice_whole_iff cc0_scratch2 _ i Rect.mem_set_unit).trans (Rect.mem_set_unit.symm.trans mem_qR)
theorem acc_r10 (h) {i : S8x96x768.Idx} : i ∈ (r1M.access (Rect.unit (s := S8x96x768) ![0, 0, 0] S1x96x768.size h)).set ↔ i ∈ r1S 0 := by
  rw [show r1S 0 = _ from View.set_reshape _ _]; exact Iff.rfl
theorem acc_r1 (n : ℕ) (h) {i : S8x96x768.Idx} : i ∈ (r1M.access (Rect.unit (s := S8x96x768) ![n, 0, 0] S4x96x768.size h)).set ↔
    n ≤ (i 0).val ∧ (i 0).val < n + 4 := by
  refine (ValueKit.mem_set_slice_whole_iff cc0_scratch3 _ i Rect.mem_set_unit).trans ⟨fun H => H 0, fun H a => ?_⟩
  have h1 : (i 1).val < 96 := (i 1).isLt
  have h2 : (i 2).val < 768 := (i 2).isLt
  fin_cases a
  · exact H
  · exact ⟨Nat.zero_le _, by show (i 1).val < 0 + 96; omega⟩
  · exact ⟨Nat.zero_le _, by show (i 2).val < 0 + 768; omega⟩
theorem acc_r2 (h) {i : S4x24x768.Idx} : i ∈ (r2M.access (Rect.unit (s := S4x24x768) ![1, 0, 0] S3x24x768.size h)).set ↔
    1 ≤ (i 0).val ∧ (i 0).val < 1 + 3 := by
  refine (ValueKit.mem_set_slice_whole_iff cc0_scratch6 _ i Rect.mem_set_unit).trans ⟨fun H => H 0, fun H a => ?_⟩
  have h1 : (i 1).val < 24 := (i 1).isLt
  have h2 : (i 2).val < 768 := (i 2).isLt
  fin_cases a
  · exact H
  · exact ⟨Nat.zero_le _, by show (i 1).val < 0 + 24; omega⟩
  · exact ⟨Nat.zero_le _, by show (i 2).val < 0 + 768; omega⟩

theorem ex_p (i : S768x768.Idx) : ∃ t ∈ (Finset.univ : Finset (Fin 8)), i ∈ pS t := by
  have h : (i 0).val < 768 := (i 0).isLt
  have h' : (i 0).val / 96 < 8 := by omega
  exact ⟨⟨(i 0).val / 96, h'⟩, Finset.mem_univ _, mem_pSl.mpr rfl⟩
theorem ex_q (q : Fin 4) (t t' : Fin 8) (h : t.val = 2 * q.val) (h' : t'.val = 2 * q.val + 1) (i : S768x768.Idx) :
    i ∈ (pM.access (qR q)).set ↔ ∃ u ∈ ({t, t'} : Finset (Fin 8)), i ∈ pS u := by
  refine acc_q.trans ⟨fun h0 => ?_, fun H => ?_⟩
  · rcases (by omega : (i 0).val / 96 = t.val ∨ (i 0).val / 96 = t'.val) with e | e
    · exact ⟨t, by simp, mem_pSl.mpr e⟩
    · exact ⟨t', by simp, mem_pSl.mpr e⟩
  · obtain ⟨u, hu, hi⟩ := H
    have e := mem_pSl.mp hi
    rcases Finset.mem_insert.mp hu with e' | e'
    · rw [e'] at e; omega
    · rw [Finset.mem_singleton.mp e'] at e; omega

/-- A set of elements cut along a finite family of disjoint parts that make it up. -/
theorem cut_set {ℓ : Loc nD τ sig} {T : Type} (S : Finset T) (K : T → Finset (Idx ℓ)) (U : Finset (Idx ℓ)) (f : Buf (Elt F) ℓ)
    (hd : ∀ t t' : T, t ≠ t' → Disjoint (K t) (K t')) (hU : ∀ i, i ∈ U ↔ ∃ t ∈ S, i ∈ K t) :
    ((ℓ ↦[U]{fullShare} f) : sProp 𝕄) = bigSep S fun t => ℓ ↦[K t]{fullShare} f := by
  rw [← pointsTo_biUnion S K fun t _ t' _ h => hd t t' h, show U = S.biUnion K from Finset.ext fun i => (hU i).trans Finset.mem_biUnion.symm]

section Slots
variable (c : Dev nD)

/-- The product in its eight blocks; -/
theorem p_cut (f : Vec F S768x768 .bf16) : (wh c pM f : sProp 𝕄)
    = iprop(pPts c 0 f ∗ pPts c 1 f ∗ pPts c 2 f ∗ pPts c 3 f ∗ pPts c 4 f ∗ pPts c 5 f ∗ pPts c 6 f ∗ pPts c 7 f) := by
  refine (cut_set (ℓ := (c : Thread nD τ).loc cc0_scratch2) Finset.univ pS Finset.univ f cut_p fun i => ⟨fun _ => ex_p i, fun _ => Finset.mem_univ _⟩).trans ?_
  rw [bigSep_univ_eq_bigSepL ([0, 1, 2, 3, 4, 5, 6, 7] : List (Fin 8)) (by decide) (by decide)]; rfl
/-- the first landing buffer in its slots; -/
theorem r1_cut (f : Vec F S8x96x768 .bf16) : (wh c r1M f : sProp 𝕄)
    = iprop(r1Pts c 0 f ∗ r1Pts c 1 f ∗ r1Pts c 2 f ∗ r1Pts c 3 f ∗ r1Pts c 4 f ∗ r1Pts c 5 f ∗ r1Pts c 6 f ∗ r1Pts c 7 f) := by
  refine (cut_set (ℓ := (c : Thread nD τ).loc cc0_scratch3) Finset.univ r1S Finset.univ f cut_r1 fun i => ⟨fun _ => ?_, fun _ => Finset.mem_univ _⟩).trans ?_
  · exact ⟨⟨(i 0).val, (i 0).isLt⟩, Finset.mem_univ _, mem_r1Sl.mpr rfl⟩
  · rw [bigSep_univ_eq_bigSepL ([0, 1, 2, 3, 4, 5, 6, 7] : List (Fin 8)) (by decide) (by decide)]; rfl
/-- the second in its slots; -/
theorem r2_cut (f : Vec F S4x24x768 .bf16) : (wh c r2M f : sProp 𝕄)
    = iprop(r2Pts c 0 f ∗ r2Pts c 1 f ∗ r2Pts c 2 f ∗ r2Pts c 3 f) := by
  refine (cut_set (ℓ := (c : Thread nD τ).loc cc0_scratch6) Finset.univ r2S Finset.univ f cut_r2 fun i => ⟨fun _ => ?_, fun _ => Finset.mem_univ _⟩).trans ?_
  · exact ⟨⟨(i 0).val, (i 0).isLt⟩, Finset.mem_univ _, mem_r2Sl.mpr rfl⟩
  · rw [bigSep_univ_eq_bigSepL ([0, 1, 2, 3] : List (Fin 4)) (by decide) (by decide)]; rfl
/-- and the rounded sum in its quarters, the own one first. -/
theorem sb_cut (f : Vec F S96x768 .bf16) : (wh c sbM f : sProp 𝕄)
    = iprop(sbPts c (C c + 0) f ∗ sbPts c (C c + 1) f ∗ sbPts c (C c + 2) f ∗ sbPts c (C c + 3) f) := by
  refine (cut_set (ℓ := (c : Thread nD τ).loc cc0_scratch5) Finset.univ (fun u => sbS (C c + u)) Finset.univ f (cut_sb (C c)) fun i => ⟨fun _ => ?_, fun _ => Finset.mem_univ _⟩).trans ?_
  · have h : (i 0).val < 96 := (i 0).isLt
    refine ⟨⟨(i 0).val / 24, by omega⟩ - C c, Finset.mem_univ _, ?_⟩
    rw [add_sub4]
    exact mem_sbSl.mpr rfl
  · rw [bigSep_univ_eq_bigSepL ([0, 1, 2, 3] : List (Fin 4)) (by decide) (by decide)]; rfl
/-- Slots of the second landing buffer, of contents of their own, make up a buffer again. -/
theorem r2_join (f g : Vec F S4x24x768 .bf16) :
    iprop(r2Pts c 0 f ∗ r2Pts c 1 g ∗ r2Pts c 2 g ∗ r2Pts c 3 g) ⊢ (iprop(∃ h, wh c r2M h) : sProp 𝕄) := by
  have e : ∀ X : Vec F S4x24x768 .bf16, ∀ s, (∀ i : S4x24x768.Idx, (i 0).val = s.val → X i = (if (i 0).val = 0 then f i else g i)) →
      (r2Pts c s X : sProp 𝕄) = r2Pts c s fun i => if (i 0).val = 0 then f i else g i := fun X s hX =>
    pointsTo_congr fun i hi => hX i (mem_r2Sl.mp hi)
  rw [e f 0 fun i h => (if_pos h).symm, e g 1 fun i h => (if_neg (by rw [h]; decide)).symm, e g 2 fun i h => (if_neg (by rw [h]; decide)).symm,
    e g 3 fun i h => (if_neg (by rw [h]; decide)).symm, ← r2_cut]
  iintro H
  iexists _; iexact H

/-- Slots 4 to 7 of the first landing buffer, 0 to 3, and 1 to 3 of the second. -/
theorem r1_hi (h) (f : Vec F S8x96x768 .bf16) :
    ((c : Thread nD τ).loc cc0_scratch3 ↦[(r1M.access (Rect.unit (s := S8x96x768) ![4, 0, 0] S4x96x768.size h)).set]{fullShare} f : sProp 𝕄)
      = iprop(r1Pts c 4 f ∗ r1Pts c 5 f ∗ r1Pts c 6 f ∗ r1Pts c 7 f) := by
  refine (cut_set (ℓ := (c : Thread nD τ).loc cc0_scratch3) {4, 5, 6, 7} r1S _ f cut_r1 fun i => (acc_r1 4 h).trans ⟨fun h0 => ?_, fun ⟨t, ht, hi⟩ => ?_⟩).trans ?_
  · exact ⟨⟨(i 0).val, (i 0).isLt⟩, (by decide : ∀ t : Fin 8, 4 ≤ t.val → t ∈ ({4, 5, 6, 7} : Finset (Fin 8))) _ h0.1, mem_r1Sl.mpr rfl⟩
  · rw [mem_r1Sl.mp hi]; exact (by decide : ∀ t ∈ ({4, 5, 6, 7} : Finset (Fin 8)), 4 ≤ t.val ∧ t.val < 4 + 4) t ht
  · rw [bigSep_eq_bigSepL_of_eq (S := {4, 5, 6, 7}) ([4, 5, 6, 7] : List (Fin 8)) (by decide) (by decide)]; rfl
theorem r1_lo (h) (f : Vec F S8x96x768 .bf16) :
    ((c : Thread nD τ).loc cc0_scratch3 ↦[(r1M.access (Rect.unit (s := S8x96x768) ![0, 0, 0] S4x96x768.size h)).set]{fullShare} f : sProp 𝕄)
      = iprop(r1Pts c 0 f ∗ r1Pts c 1 f ∗ r1Pts c 2 f ∗ r1Pts c 3 f) := by
  refine (cut_set (ℓ := (c : Thread nD τ).loc cc0_scratch3) {0, 1, 2, 3} r1S _ f cut_r1 fun i => (acc_r1 0 h).trans ⟨fun h0 => ?_, fun ⟨t, ht, hi⟩ => ?_⟩).trans ?_
  · exact ⟨⟨(i 0).val, (i 0).isLt⟩, (by decide : ∀ t : Fin 8, t.val < 0 + 4 → t ∈ ({0, 1, 2, 3} : Finset (Fin 8))) _ h0.2, mem_r1Sl.mpr rfl⟩
  · rw [mem_r1Sl.mp hi]; exact (by decide : ∀ t ∈ ({0, 1, 2, 3} : Finset (Fin 8)), 0 ≤ t.val ∧ t.val < 0 + 4) t ht
  · rw [bigSep_eq_bigSepL_of_eq (S := {0, 1, 2, 3}) ([0, 1, 2, 3] : List (Fin 8)) (by decide) (by decide)]; rfl
theorem r2_oth (h) (f : Vec F S4x24x768 .bf16) :
    ((c : Thread nD τ).loc cc0_scratch6 ↦[(r2M.access (Rect.unit (s := S4x24x768) ![1, 0, 0] S3x24x768.size h)).set]{fullShare} f : sProp 𝕄)
      = iprop(r2Pts c 1 f ∗ r2Pts c 2 f ∗ r2Pts c 3 f) := by
  refine (cut_set (ℓ := (c : Thread nD τ).loc cc0_scratch6) {1, 2, 3} r2S _ f cut_r2 fun i => (acc_r2 h).trans ⟨fun h0 => ?_, fun ⟨t, ht, hi⟩ => ?_⟩).trans ?_
  · exact ⟨⟨(i 0).val, (i 0).isLt⟩, (by decide : ∀ t : Fin 4, 1 ≤ t.val → t ∈ ({1, 2, 3} : Finset (Fin 4))) _ h0.1, mem_r2Sl.mpr rfl⟩
  · rw [mem_r2Sl.mp hi]; exact (by decide : ∀ t ∈ ({1, 2, 3} : Finset (Fin 4)), 1 ≤ t.val ∧ t.val < 1 + 3) t ht
  · rw [bigSep_eq_bigSepL_of_eq (S := {1, 2, 3}) ([1, 2, 3] : List (Fin 4)) (by decide) (by decide)]; rfl
/-- Two neighbouring blocks of the product, which one chunk fills. -/
theorem p_two (q : Fin 4) (t t' : Fin 8) (h : t.val = 2 * q.val) (h' : t'.val = 2 * q.val + 1) (f : Vec F S768x768 .bf16) :
    ((c : Thread nD τ).loc cc0_scratch2 ↦[(pM.access (qR q)).set]{fullShare} f : sProp 𝕄) = iprop(pPts c t f ∗ pPts c t' f) := by
  have hn : t ≠ t' := fun e => by rw [e] at h; omega
  refine (cut_set (ℓ := (c : Thread nD τ).loc cc0_scratch2) {t, t'} pS _ f cut_p (ex_q q t t' h h')).trans ?_
  rw [bigSep_insert (by simpa using hn), bigSep_singleton]; rfl
end Slots

/-! ## Loads and stores -/

theorem hz2 : (![0, 0] : Fin 2 → Nat) = fun _ => 0 := funext fun a => by fin_cases a <;> rfl

section Whole
variable (c : Dev nD) {α : Type} {s : Shape} {e : EltTy} {cs : CoreSpace}

/-- A load from a buffer held whole; -/
theorem load_wh {Q : α → sProp 𝕄} {Fr : sProp 𝕄} {mr : Memref sig .tc cs s e} {r : LoadRect s} {hl : mr.view.LoadsAt r}
    {k : (r.shape.Idx → Elt F e) → Prog (TpuEff nD τ sig (Elt F) Λ₀ .tc) α} {f : Buf (Elt F) (mr.view.loc (c : Thread nD τ))} (v : r.shape.Idx → Elt F e)
    (hv : mr.view.readAt (Elt F) r f = v)
    (h : iprop(wh c mr f ∗ Fr) ⊢ WP c (k v) Q) : iprop(wh c mr f ∗ Fr) ⊢ WP c (.op (.load mr r hl) k) Q := by
  have hS : mr.view.setOn r.set ⊆ Finset.univ := Finset.subset_univ _
  exact load_step (mr := mr) (r := r) (f := f) c v hS hv h
/-- a store to one; -/
theorem store_wh {Q : α → sProp 𝕄} {Fr : sProp 𝕄} {mr : Memref sig .tc cs s e} {r : Rect s} {w : r.shape.Idx → Elt F e}
    {hx : (mr.access r).Stores Finset.univ} {hm : (Finset.univ : Finset r.shape.Idx) = Finset.univ ∨ ∀ a, r.stride a = 1}
    {k : PUnit → Prog (TpuEff nD τ sig (Elt F) Λ₀ .tc) α} {f : Buf (Elt F) (mr.view.loc (c : Thread nD τ))} (g : Buf (Elt F) (mr.view.loc (c : Thread nD τ)))
    (hg : (mr.access r).write (Elt F) f w Finset.univ = g)
    (h : iprop(wh c mr g ∗ Fr) ⊢ WP c (k ⟨⟩) Q) : iprop(wh c mr f ∗ Fr) ⊢ WP c (.op (.store mr r w Finset.univ hx hm) k) Q := by
  have hS : (mr.access r).setOn Finset.univ ⊆ Finset.univ := Finset.subset_univ _
  have hg' : ∀ i ∈ (Finset.univ : Finset (Idx ((mr.access r).loc (c : Thread nD τ)))), (mr.access r).write (Elt F) f w Finset.univ i = g i := fun i _ => congrFun hg i
  exact store_step (mr := mr) (r := r) (f := f) (S := Finset.univ) (hx := hx) (hm := hm) c g hS hg' h
/-- and a load whose elements are held. -/
theorem load_rect {Q : α → sProp 𝕄} {Fr : sProp 𝕄} {mr : Memref sig .tc cs s e} {r : Rect s} {hl : mr.view.LoadsAt r.toLoadRect}
    {k : (r.shape.Idx → Elt F e) → Prog (TpuEff nD τ sig (Elt F) Λ₀ .tc) α}
    {S : Finset (Idx (mr.view.loc (c : Thread nD τ)))} {f : Buf (Elt F) (mr.view.loc (c : Thread nD τ))} (v : r.shape.Idx → Elt F e)
    (hS : (mr.access r).set ⊆ S) (hv : mr.view.readAt (Elt F) r.toLoadRect f = v)
    (h : iprop((mr.view.loc (c : Thread nD τ) ↦[S]{fullShare} f) ∗ Fr) ⊢ WP c (k v) Q) :
    iprop((mr.view.loc (c : Thread nD τ) ↦[S]{fullShare} f) ∗ Fr) ⊢ WP c (.op (.load mr r.toLoadRect hl) k) Q :=
  load_step c v (by rw [View.set_slice] at hS; exact hS) hv h
end Whole

section Slots
variable (c : Dev nD) {α : Type}

/-- The dead read of a half-chunk of the product; -/
theorem load_q {Q : α → sProp 𝕄} {Fr : sProp 𝕄} (q : Fin 4) (t t' : Fin 8) (ht : t.val = 2 * q.val) (ht' : t'.val = 2 * q.val + 1) (f : Vec F S768x768 .bf16)
    {hl : pM.view.LoadsAt (qR q).toLoadRect} {k : ((qR q).shape.Idx → Elt F .bf16) → Prog (TpuEff nD τ sig (Elt F) Λ₀ .tc) α}
    (h : iprop((pPts c t f ∗ pPts c t' f) ∗ Fr) ⊢ WP c (k (pM.view.readAt (Elt F) (qR q).toLoadRect f)) Q) :
    iprop((pPts c t f ∗ pPts c t' f) ∗ Fr) ⊢ WP c (.op (.load pM (qR q).toLoadRect hl) k) Q := by
  rw [← p_two c q t t' ht ht'] at h ⊢
  exact load_rect (mr := pM) (r := qR q) c _ (fun i hi => hi) rfl h
/-- the store of its product there. -/
theorem store_q {Q : α → sProp 𝕄} {Fr : sProp 𝕄} (q : Fin 4) (t t' : Fin 8) (ht : t.val = 2 * q.val) (ht' : t'.val = 2 * q.val + 1) (f : Vec F S768x768 .bf16)
    {hx : (pM.access (qR q)).Stores Finset.univ} {hm : (Finset.univ : Finset (qR q).shape.Idx) = Finset.univ ∨ ∀ a, (qR q).stride a = 1}
    {k : PUnit → Prog (TpuEff nD τ sig (Elt F) Λ₀ .tc) α}
    (h : iprop((pPts c t (pV m ρ c) ∗ pPts c t' (pV m ρ c)) ∗ Fr) ⊢ WP c (k ⟨⟩) Q) :
    iprop((pPts c t f ∗ pPts c t' f) ∗ Fr) ⊢ WP c (.op (.store pM (qR q) (chV m ρ c q) Finset.univ hx hm) k) Q := by
  rw [← p_two c q t t' ht ht'] at h ⊢
  exact store_step (mr := pM) (r := qR q) c (pV m ρ c) (fun i hi => hi) (fun i hi => store_ch m ρ c q f i hi) h
/-- The read of the own block, -/
theorem load_p0 {Q : α → sProp 𝕄} {Fr : sProp 𝕄} {hi} {hl : pM.view.LoadsAt (Rect.unit (s := S768x768) ![0, 0] S96x768.size hi).toLoadRect}
    {k : (S96x768.Idx → Elt F .bf16) → Prog (TpuEff nD τ sig (Elt F) Λ₀ .tc) α}
    (h : iprop(pPts c 0 (pV m ρ c) ∗ Fr) ⊢ WP c (k (blkV m ρ c 0)) Q) :
    iprop(pPts c 0 (pV m ρ c) ∗ Fr) ⊢ WP c (.op (.load pM (Rect.unit (s := S768x768) ![0, 0] S96x768.size hi).toLoadRect hl) k) Q :=
  load_rect (mr := pM) (r := Rect.unit (s := S768x768) ![0, 0] S96x768.size hi) (S := pS 0) c (blkV m ρ c 0) (fun i hh => hh) (own_blk m ρ c hi) h
/-- the dead read of the own landing slot, -/
theorem load_r10 {Q : α → sProp 𝕄} {Fr : sProp 𝕄} (f : Vec F S8x96x768 .bf16) {hi} {hl : r1M.view.LoadsAt (Rect.unit (s := S8x96x768) ![0, 0, 0] S1x96x768.size hi).toLoadRect}
    {k : (S1x96x768.Idx → Elt F .bf16) → Prog (TpuEff nD τ sig (Elt F) Λ₀ .tc) α}
    (h : iprop(r1Pts c 0 f ∗ Fr) ⊢ WP c (k (r1M.view.readAt (Elt F) (Rect.unit (s := S8x96x768) ![0, 0, 0] S1x96x768.size hi).toLoadRect f)) Q) :
    iprop(r1Pts c 0 f ∗ Fr) ⊢ WP c (.op (.load r1M (Rect.unit (s := S8x96x768) ![0, 0, 0] S1x96x768.size hi).toLoadRect hl) k) Q :=
  load_rect (mr := r1M) (r := Rect.unit (s := S8x96x768) ![0, 0, 0] S1x96x768.size hi) (S := r1S 0) c _ (fun i hh => (acc_r10 hi).mp hh) rfl h
/-- the store of the own block there. -/
theorem store_r10 {Q : α → sProp 𝕄} {Fr : sProp 𝕄} (f : Vec F S8x96x768 .bf16) {hi} {hx : (r1M.access (Rect.unit (s := S8x96x768) ![0, 0, 0] S1x96x768.size hi)).Stores Finset.univ}
    {hm : (Finset.univ : Finset (Rect.unit (s := S8x96x768) ![0, 0, 0] S1x96x768.size hi).shape.Idx) = Finset.univ ∨ ∀ a, (Rect.unit (s := S8x96x768) ![0, 0, 0] S1x96x768.size hi).stride a = 1}
    {k : PUnit → Prog (TpuEff nD τ sig (Elt F) Λ₀ .tc) α}
    (h : iprop(r1Pts c 0 (r1V m ρ c) ∗ Fr) ⊢ WP c (k ⟨⟩) Q) :
    iprop(r1Pts c 0 f ∗ Fr) ⊢ WP c (.op (.store r1M (Rect.unit (s := S8x96x768) ![0, 0, 0] S1x96x768.size hi) (k0_pay7 (blkV m ρ c 0)) Finset.univ hx hm) k) Q :=
  store_step (mr := r1M) (r := Rect.unit (s := S8x96x768) ![0, 0, 0] S1x96x768.size hi) (S := r1S 0) c (r1V m ρ c) (fun i hh => (acc_r10 hi).mp hh)
    (fun i hh => store_own m ρ c f hi i ((acc_r10 hi).mpr hh)) h
/-- The reads of the upper and the lower four landed blocks, -/
theorem load_r1hi {Q : α → sProp 𝕄} {Fr : sProp 𝕄} {hi} {hl : r1M.view.LoadsAt (Rect.unit (s := S8x96x768) ![4, 0, 0] S4x96x768.size hi).toLoadRect}
    {k : (S4x96x768.Idx → Elt F .bf16) → Prog (TpuEff nD τ sig (Elt F) Λ₀ .tc) α}
    (h : iprop((r1Pts c 4 (r1V m ρ c) ∗ r1Pts c 5 (r1V m ρ c) ∗ r1Pts c 6 (r1V m ρ c) ∗ r1Pts c 7 (r1V m ρ c)) ∗ Fr) ⊢ WP c (k (hiV m ρ c)) Q) :
    iprop((r1Pts c 4 (r1V m ρ c) ∗ r1Pts c 5 (r1V m ρ c) ∗ r1Pts c 6 (r1V m ρ c) ∗ r1Pts c 7 (r1V m ρ c)) ∗ Fr)
      ⊢ WP c (.op (.load r1M (Rect.unit (s := S8x96x768) ![4, 0, 0] S4x96x768.size hi).toLoadRect hl) k) Q := by
  rw [← r1_hi c hi] at h ⊢
  exact load_rect (mr := r1M) (r := Rect.unit (s := S8x96x768) ![4, 0, 0] S4x96x768.size hi) c (hiV m ρ c) (fun i hh => hh) (load_hi m ρ c hi) h
theorem load_r1lo {Q : α → sProp 𝕄} {Fr : sProp 𝕄} {hi} {hl : r1M.view.LoadsAt (Rect.unit (s := S8x96x768) ![0, 0, 0] S4x96x768.size hi).toLoadRect}
    {k : (S4x96x768.Idx → Elt F .bf16) → Prog (TpuEff nD τ sig (Elt F) Λ₀ .tc) α}
    (h : iprop((r1Pts c 0 (r1V m ρ c) ∗ r1Pts c 1 (r1V m ρ c) ∗ r1Pts c 2 (r1V m ρ c) ∗ r1Pts c 3 (r1V m ρ c)) ∗ Fr) ⊢ WP c (k (loV m ρ c)) Q) :
    iprop((r1Pts c 0 (r1V m ρ c) ∗ r1Pts c 1 (r1V m ρ c) ∗ r1Pts c 2 (r1V m ρ c) ∗ r1Pts c 3 (r1V m ρ c)) ∗ Fr)
      ⊢ WP c (.op (.load r1M (Rect.unit (s := S8x96x768) ![0, 0, 0] S4x96x768.size hi).toLoadRect hl) k) Q := by
  rw [← r1_lo c hi] at h ⊢
  exact load_rect (mr := r1M) (r := Rect.unit (s := S8x96x768) ![0, 0, 0] S4x96x768.size hi) c (loV m ρ c) (fun i hh => hh) (load_lo m ρ c hi) h
/-- and of the other cubes' quarters. -/
theorem load_r2oth {Q : α → sProp 𝕄} {Fr : sProp 𝕄} {hi} {hl : r2M.view.LoadsAt (Rect.unit (s := S4x24x768) ![1, 0, 0] S3x24x768.size hi).toLoadRect}
    {k : (S3x24x768.Idx → Elt F .bf16) → Prog (TpuEff nD τ sig (Elt F) Λ₀ .tc) α}
    (h : iprop((r2Pts c 1 (r2V m ρ c) ∗ r2Pts c 2 (r2V m ρ c) ∗ r2Pts c 3 (r2V m ρ c)) ∗ Fr) ⊢ WP c (k (othV m ρ c)) Q) :
    iprop((r2Pts c 1 (r2V m ρ c) ∗ r2Pts c 2 (r2V m ρ c) ∗ r2Pts c 3 (r2V m ρ c)) ∗ Fr)
      ⊢ WP c (.op (.load r2M (Rect.unit (s := S4x24x768) ![1, 0, 0] S3x24x768.size hi).toLoadRect hl) k) Q := by
  rw [← r2_oth c hi] at h ⊢
  exact load_rect (mr := r2M) (r := Rect.unit (s := S4x24x768) ![1, 0, 0] S3x24x768.size hi) c (othV m ρ c) (fun i hh => hh) (load_oth m ρ c hi) h
end Slots

end Cert.KernelIdealRun

end
-- ==== Proof.KernelIdealBody.lean ====
/-
The body, printed part by printed part, at a device of its own: what each part takes and what it gives, beside a frame.
-/
module

public import proofs.«01_k».proof.Proof.KernelIdealMem

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The devices the printed words name -/

theorem dev1 (c : Dev nD) : (⟨k0_dev1 c, k0_dev1_lt c⟩ : Dev nD) = memP c 1 := Fin.ext (k0_dev1_eq c)
theorem dev2 (c : Dev nD) : (⟨k0_dev2 c, k0_dev2_lt c⟩ : Dev nD) = memP c 2 := Fin.ext (k0_dev2_eq c)
theorem dev3 (c : Dev nD) : (⟨k0_dev3 c, k0_dev3_lt c⟩ : Dev nD) = memP c 3 := Fin.ext (k0_dev3_eq c)
theorem dev4 (c : Dev nD) : (⟨k0_dev4 c, k0_dev4_lt c⟩ : Dev nD) = memP c 4 := Fin.ext (k0_dev4_eq c)
theorem dev5 (c : Dev nD) : (⟨k0_dev5 c, k0_dev5_lt c⟩ : Dev nD) = memP c 5 := Fin.ext (k0_dev5_eq c)
theorem dev6 (c : Dev nD) : (⟨k0_dev6 c, k0_dev6_lt c⟩ : Dev nD) = memP c 6 := Fin.ext (k0_dev6_eq c)
theorem dev7 (c : Dev nD) : (⟨k0_dev7 c, k0_dev7_lt c⟩ : Dev nD) = memP c 7 := Fin.ext (k0_dev7_eq c)
theorem dev8 (c : Dev nD) : (⟨k0_dev8 c, k0_dev8_lt c⟩ : Dev nD) = cubP c 1 := Fin.ext (k0_dev8_eq c)
theorem dev9 (c : Dev nD) : (⟨k0_dev9 c, k0_dev9_lt c⟩ : Dev nD) = cubP c 2 := Fin.ext (k0_dev9_eq c)
theorem dev10 (c : Dev nD) : (⟨k0_dev10 c, k0_dev10_lt c⟩ : Dev nD) = cubP c 3 := Fin.ext (k0_dev10_eq c)
theorem dev11 (c : Dev nD) : (⟨k0_dev11 c, k0_dev11_lt c⟩ : Dev nD) = memP c 1 := Fin.ext (k0_dev11_eq c)
theorem dev12 (c : Dev nD) : (⟨k0_dev12 c, k0_dev12_lt c⟩ : Dev nD) = memP c 2 := Fin.ext (k0_dev12_eq c)
theorem dev13 (c : Dev nD) : (⟨k0_dev13 c, k0_dev13_lt c⟩ : Dev nD) = memP c 3 := Fin.ext (k0_dev13_eq c)
theorem dev14 (c : Dev nD) : (⟨k0_dev14 c, k0_dev14_lt c⟩ : Dev nD) = memP c 4 := Fin.ext (k0_dev14_eq c)
theorem dev15 (c : Dev nD) : (⟨k0_dev15 c, k0_dev15_lt c⟩ : Dev nD) = memP c 5 := Fin.ext (k0_dev15_eq c)
theorem dev16 (c : Dev nD) : (⟨k0_dev16 c, k0_dev16_lt c⟩ : Dev nD) = memP c 6 := Fin.ext (k0_dev16_eq c)
theorem dev17 (c : Dev nD) : (⟨k0_dev17 c, k0_dev17_lt c⟩ : Dev nD) = memP c 7 := Fin.ext (k0_dev17_eq c)
theorem dev18 (c : Dev nD) : (⟨k0_dev18 c, k0_dev18_lt c⟩ : Dev nD) = cubP c 1 := Fin.ext (k0_dev18_eq c)
theorem dev19 (c : Dev nD) : (⟨k0_dev19 c, k0_dev19_lt c⟩ : Dev nD) = cubP c 2 := Fin.ext (k0_dev19_eq c)
theorem dev20 (c : Dev nD) : (⟨k0_dev20 c, k0_dev20_lt c⟩ : Dev nD) = cubP c 3 := Fin.ext (k0_dev20_eq c)

/-! ## Ends and parts -/

section Rules
variable (c : Dev nD) {α : Type}

/-- The end of a program; -/
theorem ret_step {Q : α → sProp 𝕄} {P : sProp 𝕄} {a : α} (h : P ⊢ Q a) : P ⊢ WP c (.ret a) Q := by
  unfold WP
  rw [wp_ret]
  exact h.trans fupd_intro
/-- a device's own number; -/
theorem dev_step {Q : α → sProp 𝕄} {P : sProp 𝕄} {k : Dev nD → Prog (TpuEff nD τ sig (Elt F) Λ₀ .tc) α} (h : P ⊢ WP c (k c) Q) : P ⊢ WP c (.op .deviceId k) Q := by
  simp only [WP, wp_deviceId]; exact h
/-- a part and what follows it. -/
theorem bind_step {β : Type} {Q : β → sProp 𝕄} {P : sProp 𝕄} {p : Prog (TpuEff nD τ sig (Elt F) Λ₀ .tc) α} {k : α → Prog (TpuEff nD τ sig (Elt F) Λ₀ .tc) β}
    (h : P ⊢ WP c p fun a => WP c (k a) Q) : P ⊢ WP c (p >>= k) Q := by
  rw [WP, wp_bind]; exact h
/-- A rule beside a frame, as a rule handing on to the rest. -/
theorem as_wand {A B W W' : sProp 𝕄} (e : (iprop(B ∗ (B -∗ W)) ⊢ W) → (iprop(A ∗ (B -∗ W)) ⊢ W')) : A ⊢ iprop((B -∗ W) -∗ W') := by
  refine BIClass.wand_intro (e ?_)
  iintro ⟨HB, HW⟩
  iapply HW; iexact HB

/-- The same for a part, which returns it does not matter what beside. -/
theorem as_part {γ : Type} {A B W' : sProp 𝕄} {β : Type} {Q : β → sProp 𝕄} {r : γ → β}
    (e : (∀ w, iprop(B ∗ (∀ w, B -∗ Q (r w))) ⊢ Q (r w)) → (iprop(A ∗ (∀ w, B -∗ Q (r w))) ⊢ W')) : A ⊢ iprop((∀ w, B -∗ Q (r w)) -∗ W') := by
  refine BIClass.wand_intro (e fun w => ?_)
  iintro ⟨HB, HW⟩
  iapply HW $$ %w; iexact HB
/-- Parts in sequence. -/
theorem seq {β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := bind_step c .rfl

/-- One product: the rows of it and `B` are read, and it is stored in its two blocks. -/
theorem chunk {Q : α → sProp 𝕄} {Fr : sProp 𝕄} (q : Fin 4) (t t' : Fin 8) (ht : t.val = 2 * q.val) (ht' : t'.val = 2 * q.val + 1) (f : Vec F S768x768 .bf16)
    {off : Fin 2 → ℕ} {hi} (hv : a2M.view.readAt (Elt F) (Rect.unit (s := S1536x384) off S192x384.size hi).toLoadRect (a2V m ρ c) = awV m ρ c q)
    {hl : a2M.view.LoadsAt (Rect.unit (s := S1536x384) off S192x384.size hi).toLoadRect}
    {hi'} {hl' : bbM.view.LoadsAt (Rect.unit (s := S384x768) ![0, 0] S384x768.size hi').toLoadRect}
    {hlq : pM.view.LoadsAt (qR q).toLoadRect}
    {hx : (pM.access (qR q)).Stores Finset.univ} {hm : (Finset.univ : Finset (qR q).shape.Idx) = Finset.univ ∨ ∀ a, (qR q).stride a = 1}
    {k : PUnit → Prog (TpuEff nD τ sig (Elt F) Λ₀ .tc) α}
    (h : iprop((wh c a2M (a2V m ρ c) ∗ wh c bbM (bbV m ρ c) ∗ pPts c t (pV m ρ c) ∗ pPts c t' (pV m ρ c)) ∗ Fr) ⊢ WP c (k ⟨⟩) Q) :
    iprop((wh c a2M (a2V m ρ c) ∗ wh c bbM (bbV m ρ c) ∗ pPts c t f ∗ pPts c t' f) ∗ Fr) ⊢ WP c
      (.op (.load a2M (Rect.unit (s := S1536x384) off S192x384.size hi).toLoadRect hl) fun v =>
       .op (.load bbM (Rect.unit (s := S384x768) ![0, 0] S384x768.size hi').toLoadRect hl') fun w =>
       .op (.load pM (qR q).toLoadRect hlq) fun _ =>
       .op (.store pM (qR q) (k0_pay6 v w) Finset.univ hx hm) k) Q := by
  iintro ⟨⟨Ha, Hb, Hp, Hp'⟩, HF⟩
  iapply (as_wand (load_wh c _ hv)) $$ Ha
  iintro Ha
  iapply (as_wand (load_wh c _ (Memref.readAt_unit_zero (Elt F) cc0_scratch1 hz2 hi' (bbV m ρ c)))) $$ Hb
  iintro Hb
  iapply (as_wand (load_q c q t t' ht ht' f)) $$ [Hp Hp']
  · iframe
  iintro ⟨Hp, Hp'⟩
  iapply (as_wand (store_q m ρ c q t t' ht ht' f)) $$ [Hp Hp']
  · iframe
  iintro ⟨Hp, Hp'⟩
  iapply h
  iframe

/-- `A` regrouped is stored in the upper half of its buffer, -/
abbrev topV (f : Vec F S1536x384 .bf16) : Vec F S1536x384 .bf16 :=
  (a2M.access (Rect.unit (s := S1536x384) ![0, 0] S768x384.size inb_S1536x384_S768x384_0_0)).write (Elt F) f (agV m ρ c) Finset.univ
theorem store_top {Q : α → sProp 𝕄} {Fr : sProp 𝕄} (f : Vec F S1536x384 .bf16) {hi} {hx : (a2M.access (Rect.unit (s := S1536x384) ![0, 0] S768x384.size hi)).Stores Finset.univ}
    {hm : (Finset.univ : Finset (Rect.unit (s := S1536x384) ![0, 0] S768x384.size hi).shape.Idx) = Finset.univ ∨ ∀ a, (Rect.unit (s := S1536x384) ![0, 0] S768x384.size hi).stride a = 1}
    {k : PUnit → Prog (TpuEff nD τ sig (Elt F) Λ₀ .tc) α}
    (h : iprop(wh c a2M (topV m ρ c f) ∗ Fr) ⊢ WP c (k ⟨⟩) Q) :
    iprop(wh c a2M f ∗ Fr) ⊢ WP c (.op (.store a2M (Rect.unit (s := S1536x384) ![0, 0] S768x384.size hi) (agV m ρ c) Finset.univ hx hm) k) Q :=
  store_wh (mr := a2M) (r := Rect.unit (s := S1536x384) ![0, 0] S768x384.size hi) c _ rfl h
/-- and in the lower. -/
theorem store_bot {Q : α → sProp 𝕄} {Fr : sProp 𝕄} (f : Vec F S1536x384 .bf16) {hi} {hx : (a2M.access (Rect.unit (s := S1536x384) ![768, 0] S768x384.size hi)).Stores Finset.univ}
    {hm : (Finset.univ : Finset (Rect.unit (s := S1536x384) ![768, 0] S768x384.size hi).shape.Idx) = Finset.univ ∨ ∀ a, (Rect.unit (s := S1536x384) ![768, 0] S768x384.size hi).stride a = 1}
    {k : PUnit → Prog (TpuEff nD τ sig (Elt F) Λ₀ .tc) α}
    (h : iprop(wh c a2M (a2V m ρ c) ∗ Fr) ⊢ WP c (k ⟨⟩) Q) :
    iprop(wh c a2M (topV m ρ c f) ∗ Fr) ⊢ WP c (.op (.store a2M (Rect.unit (s := S1536x384) ![768, 0] S768x384.size hi) (agV m ρ c) Finset.univ hx hm) k) Q :=
  store_wh (mr := a2M) (r := Rect.unit (s := S1536x384) ![768, 0] S768x384.size hi) c (a2V m ρ c) (store_a2 m ρ c f hi _) h

/-- Slot `r` of the first landing buffer has arrived, as the program waits for it; -/
theorem arrive1 {Q : α → sProp 𝕄} {Fr : sProp 𝕄} {l : List Ob} {k} (r : Fin 8) (hr : r ≠ 0) (hl : ∀ x ∈ l, 2 < x.lev) {hs : (pSl 0).view.WordExact} {hd : (r1Sl r).view.WordExact}
    (h : iprop((Ctx m ρ ∗ owesA c l ∗ Z c (qR1 r) ∗ r1Pts c r (r1V m ρ c)) ∗ Fr) ⊢ WP c (k ⟨⟩) Q) :
    iprop((Ctx m ρ ∗ owesA c l ∗ Wq c (qR1 r) N1) ∗ Fr) ⊢ WP c (.op (.waitDma2 (qR1 r) (pSl 0) (r1Sl r) hs hd) k) Q :=
  wait_R1 m ρ c r hr hl rfl rfl h
/-- block `t` has left; -/
theorem left1 {Q : α → sProp 𝕄} {Fr : sProp 𝕄} {l : List Ob} {k} (t t' : Fin 8) (ht : t ≠ 0) (hl : ∀ x ∈ l, 0 < x.lev) {hs : (r1Sl t').view.WordExact} {hd : (pSl t).view.WordExact}
    (h : iprop((Ctx m ρ ∗ owesA c l ∗ Z c (qS1 t) ∗ pPts c t (pV m ρ c)) ∗ Fr) ⊢ WP c (k ⟨⟩) Q) :
    iprop((Ctx m ρ ∗ owesA c l ∗ Wq c (qS1 t) N1) ∗ Fr) ⊢ WP c (.op (.waitDma2 (qS1 t) (r1Sl t') (pSl t) hs hd) k) Q :=
  wait_S1 m ρ c t ht hl rfl rfl h
/-- slot `r` of the second landing buffer has arrived; -/
theorem arrive2 {Q : α → sProp 𝕄} {Fr : sProp 𝕄} {l : List Ob} {k} (r : Fin 4) (hr : r ≠ 0) (hl : ∀ x ∈ l, 3 < x.lev) {hs : (sbSl 0).view.WordExact} {hd : (r2Sl r).view.WordExact}
    (h : iprop((Ctx m ρ ∗ owesA c l ∗ Z c (qR2 r) ∗ r2Pts c r (r2V m ρ c)) ∗ Fr) ⊢ WP c (k ⟨⟩) Q) :
    iprop((Ctx m ρ ∗ owesA c l ∗ Wq c (qR2 r) N2) ∗ Fr) ⊢ WP c (.op (.waitDma2 (qR2 r) (sbSl 0) (r2Sl r) hs hd) k) Q :=
  wait_R2 m ρ c r hr hl rfl rfl h
/-- the quarter for the cube `u` on has left. -/
theorem left2 {Q : α → sProp 𝕄} {Fr : sProp 𝕄} {l : List Ob} {k} (u u' : Fin 4) (hu : u ≠ 0) (hl : ∀ x ∈ l, 0 < x.lev) {off : Fin 2 → ℕ} {hi}
    {hs : (r2Sl u').view.WordExact} {hd : (sbM.slice (Rect.unit (s := S96x768) off S24x768.size hi) (fun _ => rfl)).view.WordExact}
    (h : iprop((Ctx m ρ ∗ owesA c l ∗ Z c (qS2 u) ∗ sbPts c (C c + u) (sbV m ρ c)) ∗ Fr) ⊢ WP c (k ⟨⟩) Q) :
    iprop((Ctx m ρ ∗ owesA c l ∗ Wq c (qS2 u) N2) ∗ Fr) ⊢ WP c (.op (.waitDma2 (qS2 u) (r2Sl u') (sbM.slice (Rect.unit (s := S96x768) off S24x768.size hi) (fun _ => rfl)) hs hd) k) Q :=
  wait_S2 m ρ c u hu hl rfl rfl h
end Rules

/-! ## The parts -/

section Parts
variable (c : Dev nD) {l : List Ob}

/-- The first signal; the device's number and the barrier semaphore are handed on. -/
theorem part1 {Q} {Fr : sProp 𝕄}
    (h : ∀ w_ : BitVec 32 × BitVec 32 × BitVec 32 × BitVec 32, iprop((Ctx m ρ ∗ owesA c l) ∗ Fr) ⊢ Q ⟨c, w_.1, w_.2.1, SemArray.scalar (sig.barrier 0 rfl), w_.2.2.1, w_.2.2.2⟩) :
    iprop((Ctx m ρ ∗ owesA c (.sigM 1 :: l) ∗ SgM c 1 ∗ r1Any c 1) ∗ Fr) ⊢ WP c
      (k0_part1 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10) Q := by
  rw [k0_part1_eq_skeleton]
  unfold k0_part1_skel
  simp only [semSignalWord, semWaitWord, Prog.lift, Prog.bind_op, Prog.bind_ret, Prog.pure_eq_ret]
  refine dev_step c ?_
  iintro ⟨⟨#HC, HO, Hs1, Hr1⟩, HF⟩
  iapply (as_wand (signal_mem m ρ c 1 (by decide) (dev1 c))) $$ [HO Hs1 Hr1]
  · iframe; iexact HC
  iintro ⟨-, HO⟩
  iapply (ret_step c (h (_, _, _, _)))
  iframe
  iexact HC

/-- Two signals to members, -/
theorem part2 (w1 w2 w3 w4) {Q} {Fr : sProp 𝕄}
    (h : ∀ w_, iprop((Ctx m ρ ∗ owesA c l) ∗ Fr) ⊢ Q w_) :
    iprop((Ctx m ρ ∗ owesA c (.sigM 2 :: .sigM 3 :: l) ∗ SgM c 2 ∗ r1Any c 2 ∗ SgM c 3 ∗ r1Any c 3) ∗ Fr) ⊢ WP c
      (k0_part2 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 (SemArray.scalar (sig.barrier 0 rfl)) w3 w4) Q := by
  rw [k0_part2_eq_skeleton]
  unfold k0_part2_skel
  simp only [semSignalWord, semWaitWord, Prog.lift, Prog.bind_op, Prog.bind_ret, Prog.pure_eq_ret]
  iintro ⟨⟨#HC, HO, Hs2, Hr2, Hs3, Hr3⟩, HF⟩
  iapply (as_wand (signal_mem m ρ c 2 (by decide) (dev2 c))) $$ [HO Hs2 Hr2]
  · iframe; iexact HC
  iintro ⟨-, HO⟩
  iapply (as_wand (signal_mem m ρ c 3 (by decide) (dev3 c))) $$ [HO Hs3 Hr3]
  · iframe; iexact HC
  iintro ⟨-, HO⟩
  iapply (ret_step c (h _))
  iframe
  iexact HC

/-- two more, -/
theorem part3 (w1 w2 w3 w4 w5 w6) {Q} {Fr : sProp 𝕄}
    (h : ∀ w_, iprop((Ctx m ρ ∗ owesA c l) ∗ Fr) ⊢ Q w_) :
    iprop((Ctx m ρ ∗ owesA c (.sigM 4 :: .sigM 5 :: l) ∗ SgM c 4 ∗ r1Any c 4 ∗ SgM c 5 ∗ r1Any c 5) ∗ Fr) ⊢ WP c
      (k0_part3 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 (SemArray.scalar (sig.barrier 0 rfl)) w3 w4 w5 w6) Q := by
  rw [k0_part3_eq_skeleton]
  unfold k0_part3_skel
  simp only [semSignalWord, semWaitWord, Prog.lift, Prog.bind_op, Prog.bind_ret, Prog.pure_eq_ret]
  iintro ⟨⟨#HC, HO, Hs4, Hr4, Hs5, Hr5⟩, HF⟩
  iapply (as_wand (signal_mem m ρ c 4 (by decide) (dev4 c))) $$ [HO Hs4 Hr4]
  · iframe; iexact HC
  iintro ⟨-, HO⟩
  iapply (as_wand (signal_mem m ρ c 5 (by decide) (dev5 c))) $$ [HO Hs5 Hr5]
  · iframe; iexact HC
  iintro ⟨-, HO⟩
  iapply (ret_step c (h _))
  iframe
  iexact HC

/-- and two more. -/
theorem part4 (w1 w2 w3 w4) {Q} {Fr : sProp 𝕄}
    (h : iprop((Ctx m ρ ∗ owesA c l) ∗ Fr) ⊢ Q ⟨⟩) :
    iprop((Ctx m ρ ∗ owesA c (.sigM 6 :: .sigM 7 :: l) ∗ SgM c 6 ∗ r1Any c 6 ∗ SgM c 7 ∗ r1Any c 7) ∗ Fr) ⊢ WP c
      (k0_part4 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 (SemArray.scalar (sig.barrier 0 rfl)) w3 w4) Q := by
  rw [k0_part4_eq_skeleton]
  unfold k0_part4_skel
  simp only [semSignalWord, semWaitWord, Prog.lift, Prog.bind_op, Prog.bind_ret, Prog.pure_eq_ret]
  iintro ⟨⟨#HC, HO, Hs6, Hr6, Hs7, Hr7⟩, HF⟩
  iapply (as_wand (signal_mem m ρ c 6 (by decide) (dev6 c))) $$ [HO Hs6 Hr6]
  · iframe; iexact HC
  iintro ⟨-, HO⟩
  iapply (as_wand (signal_mem m ρ c 7 (by decide) (dev7 c))) $$ [HO Hs7 Hr7]
  · iframe; iexact HC
  iintro ⟨-, HO⟩
  iapply (ret_step c (h))
  iframe
  iexact HC

/-- The signals to the other cubes; `A` is read. -/
theorem part5 (w1 w2) {Q} {Fr : sProp 𝕄}
    (h : iprop((Ctx m ρ ∗ owesA c l ∗ wh c aM (aV m ρ c)) ∗ Fr) ⊢ Q (k0_pay1 (aV m ρ c))) :
    iprop((Ctx m ρ ∗ owesA c (.sigC 1 :: .sigC 2 :: .sigC 3 :: l) ∗ SgC c 1 ∗ r2Any c 1 ∗ SgC c 2 ∗ r2Any c 2 ∗ SgC c 3 ∗ r2Any c 3 ∗ wh c aM (aV m ρ c)) ∗ Fr) ⊢ WP c
      (k0_part5 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 (SemArray.scalar (sig.barrier 0 rfl))) Q := by
  rw [k0_part5_eq_skeleton]
  unfold k0_part5_skel
  simp only [semSignalWord, semWaitWord, Prog.lift, Prog.bind_op, Prog.bind_ret, Prog.pure_eq_ret]
  iintro ⟨⟨#HC, HO, Hs8, Hr8, Hs9, Hr9, Hs10, Hr10, Ha⟩, HF⟩
  iapply (as_wand (signal_cub m ρ c 1 (by decide) (dev8 c))) $$ [HO Hs8 Hr8]
  · iframe; iexact HC
  iintro ⟨-, HO⟩
  iapply (as_wand (signal_cub m ρ c 2 (by decide) (dev9 c))) $$ [HO Hs9 Hr9]
  · iframe; iexact HC
  iintro ⟨-, HO⟩
  iapply (as_wand (signal_cub m ρ c 3 (by decide) (dev10 c))) $$ [HO Hs10 Hr10]
  · iframe; iexact HC
  iintro ⟨-, HO⟩
  iapply (as_wand (load_wh c _ (Memref.readAt_unit_zero (Elt F) cc0_stg0_0 hz2 _ (aV m ρ c)))) $$ [Ha]
  · iexact Ha
  iintro Ha
  iapply (ret_step c (h))
  iframe
  iexact HC

/-- The operands are laid out, the first product stored, the own block kept; the barrier. -/
theorem part6 (w1) (f0 f1 f2 f3) (hl : ∀ x ∈ l, 1 < x.lev) {Q} {Fr : sProp 𝕄}
    (h : ∀ w_, iprop((Ctx m ρ ∗ owesA c l ∗ wh c bM (bV m ρ c) ∗ wh c a2M (a2V m ρ c) ∗ wh c bbM (bbV m ρ c) ∗ pPts c 0 (pV m ρ c) ∗ pPts c 1 (pV m ρ c) ∗ r1Pts c 0 (r1V m ρ c) ∗ ZB c ∗ (r1Any (memP c 1) (-1) ∗ r1Any (memP c 2) (-2) ∗ r1Any (memP c 3) (-3) ∗ r1Any (memP c 4) (-4) ∗ r1Any (memP c 5) (-5) ∗ r1Any (memP c 6) (-6) ∗ r1Any (memP c 7) (-7) ∗ r2Any (cubP c 1) (-1) ∗ r2Any (cubP c 2) (-2) ∗ r2Any (cubP c 3) (-3))) ∗ Fr) ⊢ Q w_) :
    iprop((Ctx m ρ ∗ owesA c l ∗ wh c a2M f0 ∗ wh c bM (bV m ρ c) ∗ wh c bbM f1 ∗ pPts c 0 f2 ∗ pPts c 1 f2 ∗ r1Pts c 0 f3 ∗ WB c) ∗ Fr) ⊢ WP c
      (k0_part6 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 (SemArray.scalar (sig.barrier 0 rfl)) (k0_pay1 (aV m ρ c))) Q := by
  rw [k0_part6_eq_skeleton]
  unfold k0_part6_skel
  simp only [semSignalWord, semWaitWord, Prog.lift, Prog.bind_op, Prog.bind_ret, Prog.pure_eq_ret]
  simp only [show k0_pay3 (k0_pay1 (aV m ρ c)) = agV m ρ c from rfl, show k0_pay4 (k0_pay1 (aV m ρ c)) = agV m ρ c from rfl]
  iintro ⟨⟨#HC, HO, Ha2, Hb, Hbb, Hp0, Hp1, Hr0, HB⟩, HF⟩
  iapply (as_wand (load_wh c _ rfl)) $$ [Ha2]
  · iexact Ha2
  iintro Ha2
  iapply (as_wand (store_top m ρ c f0)) $$ [Ha2]
  · iexact Ha2
  iintro Ha2
  iapply (as_wand (load_wh c _ rfl)) $$ [Ha2]
  · iexact Ha2
  iintro Ha2
  iapply (as_wand (store_bot m ρ c f0)) $$ [Ha2]
  · iexact Ha2
  iintro Ha2
  iapply (as_wand (load_wh c _ (Memref.readAt_unit_zero (Elt F) cc0_stg1_0 hz2 _ (bV m ρ c)))) $$ [Hb]
  · iexact Hb
  iintro Hb
  iapply (as_wand (load_wh c _ (Memref.readAt_unit_zero (Elt F) cc0_scratch1 hz2 _ f1))) $$ [Hbb]
  · iexact Hbb
  iintro Hbb
  iapply (as_wand (store_wh c (bbV m ρ c) (Memref.write_access_unit_zero_univ (Elt F) cc0_scratch1 hz2 _ f1 _))) $$ [Hbb]
  · iexact Hbb
  iintro Hbb
  iapply (as_wand (chunk m ρ c 0 0 1 rfl rfl f2 (load_a2 m ρ c 0 _))) $$ [Ha2 Hbb Hp0 Hp1]
  · iframe
  iintro ⟨Ha2, Hbb, Hp0, Hp1⟩
  iapply (as_wand (load_p0 m ρ c)) $$ [Hp0]
  · iexact Hp0
  iintro Hp0
  iapply (as_wand (load_r10 c f3)) $$ [Hr0]
  · iexact Hr0
  iintro Hr0
  iapply (as_wand (store_r10 m ρ c f3)) $$ [Hr0]
  · iexact Hr0
  iintro Hr0
  iapply (as_wand (wait_bar m ρ c hl)) $$ [HO HB]
  · iframe; iexact HC
  iintro ⟨-, HO, HZ, HA⟩
  iapply (ret_step c (h _))
  iframe
  iexact HC

/-- Block 1 is sent; the second product. -/
theorem part7 (w1 w2 w3) (f) {Q} {Fr : sProp 𝕄}
    (h : ∀ w_, iprop((Ctx m ρ ∗ owesA c l ∗ Wq c (qS1 1) N1 ∗ wh c a2M (a2V m ρ c) ∗ wh c bbM (bbV m ρ c) ∗ pPts c 2 (pV m ρ c) ∗ pPts c 3 (pV m ρ c)) ∗ Fr) ⊢ Q w_) :
    iprop((Ctx m ρ ∗ owesA c (.snd1 1 :: l) ∗ T1 c 1 ∗ pPts c 1 (pV m ρ c) ∗ r1Any (memP c 1) (-1) ∗ wh c a2M (a2V m ρ c) ∗ wh c bbM (bbV m ρ c) ∗ pPts c 2 f ∗ pPts c 3 f) ∗ Fr) ⊢ WP c
      (k0_part7 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3) Q := by
  rw [k0_part7_eq_skeleton]
  unfold k0_part7_skel
  simp only [semSignalWord, semWaitWord, Prog.lift, Prog.bind_op, Prog.bind_ret, Prog.pure_eq_ret]
  iintro ⟨⟨#HC, HO, HT1, Hp1, Hd1, Ha2, Hbb, Hp2, Hp3⟩, HF⟩
  iapply (as_wand (send1 m ρ c 1 (by decide) (dev11 c) rfl rfl rfl rfl)) $$ [HO HT1 Hp1 Hd1]
  · iframe; iexact HC
  iintro ⟨-, HO, Hw1⟩
  iapply (as_wand (chunk m ρ c 1 2 3 rfl rfl f (load_a2 m ρ c 1 _))) $$ [Ha2 Hbb Hp2 Hp3]
  · iframe
  iintro ⟨Ha2, Hbb, Hp2, Hp3⟩
  iapply (ret_step c (h _))
  iframe
  iexact HC

/-- Block 2 is sent. -/
theorem part8 (w1 w2 w3) {Q} {Fr : sProp 𝕄}
    (h : ∀ w_, iprop((Ctx m ρ ∗ owesA c l ∗ Wq c (qS1 2) N1) ∗ Fr) ⊢ Q w_) :
    iprop((Ctx m ρ ∗ owesA c (.snd1 2 :: l) ∗ T1 c 2 ∗ pPts c 2 (pV m ρ c) ∗ r1Any (memP c 2) (-2)) ∗ Fr) ⊢ WP c
      (k0_part8 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3) Q := by
  rw [k0_part8_eq_skeleton]
  unfold k0_part8_skel
  simp only [semSignalWord, semWaitWord, Prog.lift, Prog.bind_op, Prog.bind_ret, Prog.pure_eq_ret]
  iintro ⟨⟨#HC, HO, HT2, Hp2, Hd2⟩, HF⟩
  iapply (as_wand (send1 m ρ c 2 (by decide) (dev12 c) rfl rfl rfl rfl)) $$ [HO HT2 Hp2 Hd2]
  · iframe; iexact HC
  iintro ⟨-, HO, Hw2⟩
  iapply (ret_step c (h _))
  iframe
  iexact HC

/-- Block 3 is sent; the third product. -/
theorem part9 (w1 w2 w3) (f) {Q} {Fr : sProp 𝕄}
    (h : ∀ w_, iprop((Ctx m ρ ∗ owesA c l ∗ Wq c (qS1 3) N1 ∗ wh c a2M (a2V m ρ c) ∗ wh c bbM (bbV m ρ c) ∗ pPts c 4 (pV m ρ c) ∗ pPts c 5 (pV m ρ c)) ∗ Fr) ⊢ Q w_) :
    iprop((Ctx m ρ ∗ owesA c (.snd1 3 :: l) ∗ T1 c 3 ∗ pPts c 3 (pV m ρ c) ∗ r1Any (memP c 3) (-3) ∗ wh c a2M (a2V m ρ c) ∗ wh c bbM (bbV m ρ c) ∗ pPts c 4 f ∗ pPts c 5 f) ∗ Fr) ⊢ WP c
      (k0_part9 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3) Q := by
  rw [k0_part9_eq_skeleton]
  unfold k0_part9_skel
  simp only [semSignalWord, semWaitWord, Prog.lift, Prog.bind_op, Prog.bind_ret, Prog.pure_eq_ret]
  iintro ⟨⟨#HC, HO, HT3, Hp3, Hd3, Ha2, Hbb, Hp4, Hp5⟩, HF⟩
  iapply (as_wand (send1 m ρ c 3 (by decide) (dev13 c) rfl rfl rfl rfl)) $$ [HO HT3 Hp3 Hd3]
  · iframe; iexact HC
  iintro ⟨-, HO, Hw3⟩
  iapply (as_wand (chunk m ρ c 2 4 5 rfl rfl f (load_a2 m ρ c 2 _))) $$ [Ha2 Hbb Hp4 Hp5]
  · iframe
  iintro ⟨Ha2, Hbb, Hp4, Hp5⟩
  iapply (ret_step c (h _))
  iframe
  iexact HC

/-- Blocks 4 and 5 are sent. -/
theorem part10 (w1 w2 w3) {Q} {Fr : sProp 𝕄}
    (h : ∀ w_, iprop((Ctx m ρ ∗ owesA c l ∗ Wq c (qS1 4) N1 ∗ Wq c (qS1 5) N1) ∗ Fr) ⊢ Q w_) :
    iprop((Ctx m ρ ∗ owesA c (.snd1 4 :: .snd1 5 :: l) ∗ T1 c 4 ∗ pPts c 4 (pV m ρ c) ∗ r1Any (memP c 4) (-4) ∗ T1 c 5 ∗ pPts c 5 (pV m ρ c) ∗ r1Any (memP c 5) (-5)) ∗ Fr) ⊢ WP c
      (k0_part10 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3) Q := by
  rw [k0_part10_eq_skeleton]
  unfold k0_part10_skel
  simp only [semSignalWord, semWaitWord, Prog.lift, Prog.bind_op, Prog.bind_ret, Prog.pure_eq_ret]
  iintro ⟨⟨#HC, HO, HT4, Hp4, Hd4, HT5, Hp5, Hd5⟩, HF⟩
  iapply (as_wand (send1 m ρ c 4 (by decide) (dev14 c) rfl rfl rfl rfl)) $$ [HO HT4 Hp4 Hd4]
  · iframe; iexact HC
  iintro ⟨-, HO, Hw4⟩
  iapply (as_wand (send1 m ρ c 5 (by decide) (dev15 c) rfl rfl rfl rfl)) $$ [HO HT5 Hp5 Hd5]
  · iframe; iexact HC
  iintro ⟨-, HO, Hw5⟩
  iapply (ret_step c (h _))
  iframe
  iexact HC

/-- The fourth product; block 6 is sent. -/
theorem part11 (w1 w2 w3 w4) (f) {Q} {Fr : sProp 𝕄}
    (h : ∀ w_, iprop((Ctx m ρ ∗ owesA c l ∗ Wq c (qS1 6) N1 ∗ wh c a2M (a2V m ρ c) ∗ wh c bbM (bbV m ρ c) ∗ pPts c 7 (pV m ρ c)) ∗ Fr) ⊢ Q w_) :
    iprop((Ctx m ρ ∗ owesA c (.snd1 6 :: l) ∗ T1 c 6 ∗ r1Any (memP c 6) (-6) ∗ wh c a2M (a2V m ρ c) ∗ wh c bbM (bbV m ρ c) ∗ pPts c 6 f ∗ pPts c 7 f) ∗ Fr) ⊢ WP c
      (k0_part11 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3 w4) Q := by
  rw [k0_part11_eq_skeleton]
  unfold k0_part11_skel
  simp only [semSignalWord, semWaitWord, Prog.lift, Prog.bind_op, Prog.bind_ret, Prog.pure_eq_ret]
  iintro ⟨⟨#HC, HO, HT6, Hd6, Ha2, Hbb, Hp6, Hp7⟩, HF⟩
  iapply (as_wand (chunk m ρ c 3 6 7 rfl rfl f (load_a2 m ρ c 3 _))) $$ [Ha2 Hbb Hp6 Hp7]
  · iframe
  iintro ⟨Ha2, Hbb, Hp6, Hp7⟩
  iapply (as_wand (send1 m ρ c 6 (by decide) (dev16 c) rfl rfl rfl rfl)) $$ [HO HT6 Hp6 Hd6]
  · iframe; iexact HC
  iintro ⟨-, HO, Hw6⟩
  iapply (ret_step c (h _))
  iframe
  iexact HC

/-- Block 7 is sent; slot 7 has arrived. -/
theorem part12 (w1 w2) (hl : ∀ x ∈ l, 2 < x.lev) {Q} {Fr : sProp 𝕄}
    (h : ∀ w_, iprop((Ctx m ρ ∗ owesA c l ∗ Wq c (qS1 7) N1 ∗ Z c (qR1 7) ∗ r1Pts c 7 (r1V m ρ c)) ∗ Fr) ⊢ Q w_) :
    iprop((Ctx m ρ ∗ owesA c (.snd1 7 :: l) ∗ T1 c 7 ∗ pPts c 7 (pV m ρ c) ∗ r1Any (memP c 7) (-7) ∗ Wq c (qR1 7) N1) ∗ Fr) ⊢ WP c
      (k0_part12 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2) Q := by
  rw [k0_part12_eq_skeleton]
  unfold k0_part12_skel
  simp only [semSignalWord, semWaitWord, Prog.lift, Prog.bind_op, Prog.bind_ret, Prog.pure_eq_ret]
  iintro ⟨⟨#HC, HO, HT7, Hp7, Hd7, Hv7⟩, HF⟩
  iapply (as_wand (send1 m ρ c 7 (by decide) (dev17 c) rfl rfl rfl rfl)) $$ [HO HT7 Hp7 Hd7]
  · iframe; iexact HC
  iintro ⟨-, HO, Hw7⟩
  iapply (as_wand (arrive1 m ρ c 7 (by decide) hl)) $$ [HO Hv7]
  · iframe; iexact HC
  iintro ⟨-, HO, Hz7, Hr7⟩
  iapply (ret_step c (h _))
  iframe
  iexact HC

/-- Slots 6, 5 and 4 have arrived and are summed with slot 7. -/
theorem part13 (w1) (hl : ∀ x ∈ l, 2 < x.lev) {Q} {Fr : sProp 𝕄}
    (h : ∀ w_ : BitVec 32 × BitVec 32, iprop((Ctx m ρ ∗ owesA c l ∗ Z c (qR1 6) ∗ Z c (qR1 5) ∗ Z c (qR1 4) ∗ r1Pts c 4 (r1V m ρ c) ∗ r1Pts c 5 (r1V m ρ c) ∗ r1Pts c 6 (r1V m ρ c) ∗ r1Pts c 7 (r1V m ρ c)) ∗ Fr) ⊢ Q ⟨k0_pay11 (hiV m ρ c), w_.1, w_.2⟩) :
    iprop((Ctx m ρ ∗ owesA c l ∗ Wq c (qR1 6) N1 ∗ Wq c (qR1 5) N1 ∗ Wq c (qR1 4) N1 ∗ r1Pts c 7 (r1V m ρ c)) ∗ Fr) ⊢ WP c
      (k0_part13 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 w1) Q := by
  rw [k0_part13_eq_skeleton]
  unfold k0_part13_skel
  simp only [semSignalWord, semWaitWord, Prog.lift, Prog.bind_op, Prog.bind_ret, Prog.pure_eq_ret]
  iintro ⟨⟨#HC, HO, Hv6, Hv5, Hv4, Hr7⟩, HF⟩
  iapply (as_wand (arrive1 m ρ c 6 (by decide) hl)) $$ [HO Hv6]
  · iframe; iexact HC
  iintro ⟨-, HO, Hz6, Hr6⟩
  iapply (as_wand (arrive1 m ρ c 5 (by decide) hl)) $$ [HO Hv5]
  · iframe; iexact HC
  iintro ⟨-, HO, Hz5, Hr5⟩
  iapply (as_wand (arrive1 m ρ c 4 (by decide) hl)) $$ [HO Hv4]
  · iframe; iexact HC
  iintro ⟨-, HO, Hz4, Hr4⟩
  iapply (as_wand (load_r1hi m ρ c)) $$ [Hr4 Hr5 Hr6 Hr7]
  · iframe
  iintro ⟨Hr4, Hr5, Hr6, Hr7⟩
  iapply (ret_step c (h (_, _)))
  iframe
  iexact HC

/-- Slots 3, 2 and 1 have arrived and are summed with slot 0. -/
theorem part14 (w1 w2) (f) (hl : ∀ x ∈ l, 2 < x.lev) {Q} {Fr : sProp 𝕄}
    (h : ∀ w_, iprop((Ctx m ρ ∗ owesA c l ∗ Z c (qR1 3) ∗ Z c (qR1 2) ∗ Z c (qR1 1) ∗ r1Pts c 0 (r1V m ρ c) ∗ r1Pts c 1 (r1V m ρ c) ∗ r1Pts c 2 (r1V m ρ c) ∗ r1Pts c 3 (r1V m ρ c) ∗ wh c sM f) ∗ Fr) ⊢ Q ⟨sumV m ρ c, w_⟩) :
    iprop((Ctx m ρ ∗ owesA c l ∗ Wq c (qR1 3) N1 ∗ Wq c (qR1 2) N1 ∗ Wq c (qR1 1) N1 ∗ r1Pts c 0 (r1V m ρ c) ∗ wh c sM f) ∗ Fr) ⊢ WP c
      (k0_part14 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 (k0_pay11 (hiV m ρ c)) w1 w2) Q := by
  rw [k0_part14_eq_skeleton]
  unfold k0_part14_skel
  simp only [semSignalWord, semWaitWord, Prog.lift, Prog.bind_op, Prog.bind_ret, Prog.pure_eq_ret]
  iintro ⟨⟨#HC, HO, Hv3, Hv2, Hv1, Hr0, Hs⟩, HF⟩
  iapply (as_wand (arrive1 m ρ c 3 (by decide) hl)) $$ [HO Hv3]
  · iframe; iexact HC
  iintro ⟨-, HO, Hz3, Hr3⟩
  iapply (as_wand (arrive1 m ρ c 2 (by decide) hl)) $$ [HO Hv2]
  · iframe; iexact HC
  iintro ⟨-, HO, Hz2, Hr2⟩
  iapply (as_wand (arrive1 m ρ c 1 (by decide) hl)) $$ [HO Hv1]
  · iframe; iexact HC
  iintro ⟨-, HO, Hz1, Hr1⟩
  iapply (as_wand (load_r1lo m ρ c)) $$ [Hr0 Hr1 Hr2 Hr3]
  · iframe
  iintro ⟨Hr0, Hr1, Hr2, Hr3⟩
  iapply (as_wand (load_wh c _ rfl)) $$ [Hs]
  · iexact Hs
  iintro Hs
  iapply (ret_step c (h _))
  iframe
  iexact HC

/-- The sum is kept, and rounded; its first quarter is sent. -/
theorem part15 (w1 w2 w3) (f f') {Q} {Fr : sProp 𝕄}
    (h : ∀ w_, iprop((Ctx m ρ ∗ owesA c l ∗ wh c sM (sV m ρ c) ∗ sbPts c (C c + 0) (sbV m ρ c) ∗ Wq c (qS2 1) N2 ∗ sbPts c (C c + 2) (sbV m ρ c) ∗ sbPts c (C c + 3) (sbV m ρ c)) ∗ Fr) ⊢ Q w_) :
    iprop((Ctx m ρ ∗ owesA c (.snd2 1 :: l) ∗ wh c sM f ∗ wh c sbM f' ∗ T2 c 1 ∗ r2Any (cubP c 1) (-1)) ∗ Fr) ⊢ WP c
      (k0_part15 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 (sumV m ρ c) w3) Q := by
  rw [k0_part15_eq_skeleton]
  unfold k0_part15_skel
  simp only [semSignalWord, semWaitWord, Prog.lift, Prog.bind_op, Prog.bind_ret, Prog.pure_eq_ret]
  iintro ⟨⟨#HC, HO, Hs, Hsb, HT1, Hd1⟩, HF⟩
  iapply (as_wand (store_wh c (sV m ρ c) (Memref.write_access_unit_zero_univ (Elt F) cc0_scratch4 hz2 _ f _))) $$ [Hs]
  · iexact Hs
  iintro Hs
  iapply (as_wand (load_wh c _ (Memref.readAt_unit_zero (Elt F) cc0_scratch5 hz2 _ f'))) $$ [Hsb]
  · iexact Hsb
  iintro Hsb
  iapply (as_wand (store_wh c (sbV m ρ c) (Memref.write_access_unit_zero_univ (Elt F) cc0_scratch5 hz2 _ f' _))) $$ [Hsb]
  · iexact Hsb
  iintro Hsb
  ihave H4 := (BIBase.Entails.of_eq (sb_cut c (sbV m ρ c))) $$ Hsb
  icases H4 with ⟨Hq0, Hq1, Hq2, Hq3⟩
  iapply (as_wand (send2 m ρ c 1 (by decide) (dev18 c) (sbSl_off c 0 1 rfl) rfl rfl rfl)) $$ [HO HT1 Hq1 Hd1]
  · iframe; iexact HC
  iintro ⟨-, HO, Hw1⟩
  iapply (ret_step c (h _))
  iframe
  iexact HC

/-- Its second quarter is sent. -/
theorem part16 (w1 w2 w3 w4 w5) {Q} {Fr : sProp 𝕄}
    (h : ∀ w_, iprop((Ctx m ρ ∗ owesA c l ∗ Wq c (qS2 2) N2) ∗ Fr) ⊢ Q w_) :
    iprop((Ctx m ρ ∗ owesA c (.snd2 2 :: l) ∗ T2 c 2 ∗ sbPts c (C c + 2) (sbV m ρ c) ∗ r2Any (cubP c 2) (-2)) ∗ Fr) ⊢ WP c
      (k0_part16 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1 w2 w3 w4 w5) Q := by
  rw [k0_part16_eq_skeleton]
  unfold k0_part16_skel
  simp only [semSignalWord, semWaitWord, Prog.lift, Prog.bind_op, Prog.bind_ret, Prog.pure_eq_ret]
  iintro ⟨⟨#HC, HO, HT2, Hq2, Hd2⟩, HF⟩
  iapply (as_wand (send2 m ρ c 2 (by decide) (dev19 c) (sbSl_off c 1 2 rfl) rfl rfl rfl)) $$ [HO HT2 Hq2 Hd2]
  · iframe; iexact HC
  iintro ⟨-, HO, Hw2⟩
  iapply (ret_step c (h _))
  iframe
  iexact HC

/-- Its third quarter is sent; slots 3 and 2 of the second buffer have arrived. -/
theorem part17 (w1) (hl : ∀ x ∈ l, 3 < x.lev) {Q} {Fr : sProp 𝕄}
    (h : iprop((Ctx m ρ ∗ owesA c l ∗ Wq c (qS2 3) N2 ∗ Z c (qR2 3) ∗ Z c (qR2 2) ∗ r2Pts c 3 (r2V m ρ c) ∗ r2Pts c 2 (r2V m ρ c)) ∗ Fr) ⊢ Q ⟨⟩) :
    iprop((Ctx m ρ ∗ owesA c (.snd2 3 :: l) ∗ T2 c 3 ∗ sbPts c (C c + 3) (sbV m ρ c) ∗ r2Any (cubP c 3) (-3) ∗ Wq c (qR2 3) N2 ∗ Wq c (qR2 2) N2) ∗ Fr) ⊢ WP c
      (k0_part17 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1) Q := by
  rw [k0_part17_eq_skeleton]
  unfold k0_part17_skel
  simp only [semSignalWord, semWaitWord, Prog.lift, Prog.bind_op, Prog.bind_ret, Prog.pure_eq_ret]
  iintro ⟨⟨#HC, HO, HT3, Hq3, Hd3, Hv3, Hv2⟩, HF⟩
  iapply (as_wand (send2 m ρ c 3 (by decide) (dev20 c) (sbSl_off c 2 3 rfl) rfl rfl rfl)) $$ [HO HT3 Hq3 Hd3]
  · iframe; iexact HC
  iintro ⟨-, HO, Hw3⟩
  iapply (as_wand (arrive2 m ρ c 3 (by decide) hl)) $$ [HO Hv3]
  · iframe; iexact HC
  iintro ⟨-, HO, Hz3, Hr3⟩
  iapply (as_wand (arrive2 m ρ c 2 (by decide) hl)) $$ [HO Hv2]
  · iframe; iexact HC
  iintro ⟨-, HO, Hz2, Hr2⟩
  iapply (ret_step c (h))
  iframe
  iexact HC

/-- Slot 1 has arrived; the result is stored; blocks 1 and 2 have left. -/
theorem part18 (w1) (f) (hl' : ∀ x ∈ l, 3 < x.lev) (hl : ∀ x ∈ l, 0 < x.lev) {Q} {Fr : sProp 𝕄}
    (h : iprop((Ctx m ρ ∗ owesA c l ∗ Z c (qR2 1) ∗ r2Pts c 1 (r2V m ρ c) ∗ r2Pts c 2 (r2V m ρ c) ∗ r2Pts c 3 (r2V m ρ c) ∗ wh c sM (sV m ρ c) ∗ wh c oM (outV m ρ c) ∗ Z c (qS1 1) ∗ Z c (qS1 2) ∗ pPts c 1 (pV m ρ c) ∗ pPts c 2 (pV m ρ c)) ∗ Fr) ⊢ Q ⟨⟩) :
    iprop((Ctx m ρ ∗ owesA c l ∗ Wq c (qR2 1) N2 ∗ r2Pts c 2 (r2V m ρ c) ∗ r2Pts c 3 (r2V m ρ c) ∗ wh c sM (sV m ρ c) ∗ wh c oM f ∗ Wq c (qS1 1) N1 ∗ Wq c (qS1 2) N1) ∗ Fr) ⊢ WP c
      (k0_part18 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10 c w1) Q := by
  rw [k0_part18_eq_skeleton]
  unfold k0_part18_skel
  simp only [semSignalWord, semWaitWord, Prog.lift, Prog.bind_op, Prog.bind_ret, Prog.pure_eq_ret]
  iintro ⟨⟨#HC, HO, Hv1, Hr2, Hr3, Hs, Ho, Hw1, Hw2⟩, HF⟩
  iapply (as_wand (arrive2 m ρ c 1 (by decide) hl')) $$ [HO Hv1]
  · iframe; iexact HC
  iintro ⟨-, HO, Hz1, Hr1⟩
  iapply (as_wand (load_wh c _ (load_s m ρ c _))) $$ [Hs]
  · iexact Hs
  iintro Hs
  iapply (as_wand (load_r2oth m ρ c)) $$ [Hr1 Hr2 Hr3]
  · iframe
  iintro ⟨Hr1, Hr2, Hr3⟩
  iapply (as_wand (load_wh c _ (Memref.readAt_unit_zero (Elt F) cc0_stg2_0 hz2 _ f))) $$ [Ho]
  · iexact Ho
  iintro Ho
  iapply (as_wand (store_wh c (outV m ρ c) (Memref.write_access_unit_zero_univ (Elt F) cc0_stg2_0 hz2 _ f _))) $$ [Ho]
  · iexact Ho
  iintro Ho
  iapply (as_wand (left1 m ρ c 1 7 (by decide) hl)) $$ [HO Hw1]
  · iframe; iexact HC
  iintro ⟨-, HO, Hy1, Hp1⟩
  iapply (as_wand (left1 m ρ c 2 6 (by decide) hl)) $$ [HO Hw2]
  · iframe; iexact HC
  iintro ⟨-, HO, Hy2, Hp2⟩
  iapply (ret_step c (h))
  iframe
  iexact HC

/-- Blocks 3 to 6 have left. -/
theorem part19 (hl : ∀ x ∈ l, 0 < x.lev) {Q} {Fr : sProp 𝕄}
    (h : iprop((Ctx m ρ ∗ owesA c l ∗ Z c (qS1 3) ∗ Z c (qS1 4) ∗ Z c (qS1 5) ∗ Z c (qS1 6) ∗ pPts c 3 (pV m ρ c) ∗ pPts c 4 (pV m ρ c) ∗ pPts c 5 (pV m ρ c) ∗ pPts c 6 (pV m ρ c)) ∗ Fr) ⊢ Q ⟨⟩) :
    iprop((Ctx m ρ ∗ owesA c l ∗ Wq c (qS1 3) N1 ∗ Wq c (qS1 4) N1 ∗ Wq c (qS1 5) N1 ∗ Wq c (qS1 6) N1) ∗ Fr) ⊢ WP c
      (k0_part19 (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10) Q := by
  rw [k0_part19_eq_skeleton]
  unfold k0_part19_skel
  simp only [semSignalWord, semWaitWord, Prog.lift, Prog.bind_op, Prog.bind_ret, Prog.pure_eq_ret]
  iintro ⟨⟨#HC, HO, Hw3, Hw4, Hw5, Hw6⟩, HF⟩
  iapply (as_wand (left1 m ρ c 3 5 (by decide) hl)) $$ [HO Hw3]
  · iframe; iexact HC
  iintro ⟨-, HO, Hy3, Hp3⟩
  iapply (as_wand (left1 m ρ c 4 4 (by decide) hl)) $$ [HO Hw4]
  · iframe; iexact HC
  iintro ⟨-, HO, Hy4, Hp4⟩
  iapply (as_wand (left1 m ρ c 5 3 (by decide) hl)) $$ [HO Hw5]
  · iframe; iexact HC
  iintro ⟨-, HO, Hy5, Hp5⟩
  iapply (as_wand (left1 m ρ c 6 2 (by decide) hl)) $$ [HO Hw6]
  · iframe; iexact HC
  iintro ⟨-, HO, Hy6, Hp6⟩
  iapply (ret_step c (h))
  iframe
  iexact HC

/-- What is still owed lies above the waits: in the barrier, in the first phase, and at the end. -/
theorem lev1 : ∀ x ∈ obs1, 1 < x.lev := by decide
theorem lev2 : ∀ x ∈ obs2, 2 < x.lev := by decide
theorem lev0 (n : ℕ) : ∀ x ∈ ([] : List Ob), n < x.lev := fun x h => absurd h List.not_mem_nil

/-- What the body starts from, beside the protocol's context and the buffers, -/
def Tok : sProp 𝕄 := iprop((SgM c 1 ∗ SgM c 2 ∗ SgM c 3 ∗ SgM c 4 ∗ SgM c 5 ∗ SgM c 6 ∗ SgM c 7 ∗ SgC c 1 ∗ SgC c 2 ∗ SgC c 3) ∗ (T1 c 1 ∗ T1 c 2 ∗ T1 c 3 ∗ T1 c 4 ∗ T1 c 5 ∗ T1 c 6 ∗ T1 c 7) ∗ (T2 c 1 ∗ T2 c 2 ∗ T2 c 3) ∗ (Wq c (qR1 1) N1 ∗ Wq c (qR1 2) N1 ∗ Wq c (qR1 3) N1 ∗ Wq c (qR1 4) N1 ∗ Wq c (qR1 5) N1 ∗ Wq c (qR1 6) N1 ∗ Wq c (qR1 7) N1) ∗ (Wq c (qR2 1) N2 ∗ Wq c (qR2 2) N2 ∗ Wq c (qR2 3) N2) ∗ WB c)
/-- and the semaphores it leaves at zero. -/
def Zs : sProp 𝕄 := iprop(Z c (qS1 1) ∗ Z c (qS1 2) ∗ Z c (qS1 3) ∗ Z c (qS1 4) ∗ Z c (qS1 5) ∗ Z c (qS1 6) ∗ Z c (qS1 7) ∗ Z c (qR1 1) ∗ Z c (qR1 2) ∗ Z c (qR1 3) ∗ Z c (qR1 4) ∗ Z c (qR1 5) ∗ Z c (qR1 6) ∗ Z c (qR1 7) ∗ Z c (qS2 1) ∗ Z c (qS2 2) ∗ Z c (qS2 3) ∗ Z c (qR2 1) ∗ Z c (qR2 2) ∗ Z c (qR2 3) ∗ ZB c)

/-- The whole body. -/
theorem body {Fr : sProp 𝕄} {Q : PUnit → sProp 𝕄} (fo f0 f1 f2 f3 f4 f5 f6)
    (h : iprop((owesA c [] ∗ Zs c ∗ wh c aM (aV m ρ c) ∗ wh c bM (bV m ρ c) ∗ wh c oM (outV m ρ c) ∗ wh c a2M (a2V m ρ c) ∗ wh c bbM (bbV m ρ c) ∗ wh c pM (pV m ρ c) ∗ wh c r1M (r1V m ρ c) ∗ wh c sM (sV m ρ c) ∗ wh c sbM (sbV m ρ c) ∗ (∃ f, wh c r2M f)) ∗ Fr) ⊢ Q ⟨⟩) :
    iprop((Ctx m ρ ∗ owesA c obs ∗ Tok c ∗ wh c aM (aV m ρ c) ∗ wh c bM (bV m ρ c) ∗ wh c oM fo ∗ wh c a2M f0 ∗ wh c bbM f1 ∗ wh c pM f2 ∗ wh c r1M f3 ∗ wh c sM f4 ∗ wh c sbM f5 ∗ wh c r2M f6) ∗ Fr) ⊢ WP c
      (cc0_body (F := F) aM (Memref.isWhole_whole _) bM (Memref.isWhole_whole _) oM (Memref.isWhole_whole _) a2M (Memref.isWhole_whole _) bbM (Memref.isWhole_whole _) pM (Memref.isWhole_whole _) r1M (Memref.isWhole_whole _) sM (Memref.isWhole_whole _) sbM (Memref.isWhole_whole _) r2M (Memref.isWhole_whole _) cc0_scratch7 cc0_scratch8 cc0_scratch9 cc0_scratch10) Q := by
  rw [cc0_body_eq_skeleton]
  unfold cc0_body_skel
  refine bind_step c ?_
  rw [k0_part20_eq_skeleton]
  unfold k0_part20_skel Tok
  iintro ⟨⟨#HC, HO, ⟨⟨Hs1, Hs2, Hs3, Hs4, Hs5, Hs6, Hs7, Hs8, Hs9, Hs10⟩, ⟨HT1, HT2, HT3, HT4, HT5, HT6, HT7⟩, ⟨HU1, HU2, HU3⟩, ⟨Hv1, Hv2, Hv3, Hv4, Hv5, Hv6, Hv7⟩, ⟨Hx1, Hx2, Hx3⟩, HB⟩, Ha, Hb, Ho, Ha2, Hbb, HP, HR1, Hs, Hsb, HR2⟩, HF⟩
  icases (BIBase.Entails.of_eq (p_cut c f2)) $$ HP with ⟨Hp0, Hp1, Hp2, Hp3, Hp4, Hp5, Hp6, Hp7⟩
  icases (BIBase.Entails.of_eq (r1_cut c f3)) $$ HR1 with ⟨Hr0, Hr1, Hr2, Hr3, Hr4, Hr5, Hr6, Hr7⟩
  icases (BIBase.Entails.of_eq (r2_cut c f6)) $$ HR2 with ⟨Hq0, Hq1, Hq2, Hq3⟩
  iapply (seq c)
  iapply (as_part (part1 m ρ c)) $$ [HO Hs1 Hr1 ]
  · isplitr; · iexact HC
    isplitl [HO]; · iexact HO
    isplitl [Hs1]; · iexact Hs1
    unfold r1Any; iexists _; iexact Hr1
  iintro %w ⟨-, HO⟩
  iapply (seq c)
  iapply (as_part (part2 m ρ c _ _ _ _)) $$ [HO Hs2 Hr2 Hs3 Hr3 ]
  · isplitr; · iexact HC
    isplitl [HO]; · iexact HO
    isplitl [Hs2]; · iexact Hs2
    isplitl [Hr2]; · unfold r1Any; iexists _; iexact Hr2
    isplitl [Hs3]; · iexact Hs3
    unfold r1Any; iexists _; iexact Hr3
  iintro %w ⟨-, HO⟩
  iapply (seq c)
  iapply (as_part (part3 m ρ c _ _ _ _ _ _)) $$ [HO Hs4 Hr4 Hs5 Hr5 ]
  · isplitr; · iexact HC
    isplitl [HO]; · iexact HO
    isplitl [Hs4]; · iexact Hs4
    isplitl [Hr4]; · unfold r1Any; iexists _; iexact Hr4
    isplitl [Hs5]; · iexact Hs5
    unfold r1Any; iexists _; iexact Hr5
  iintro %w ⟨-, HO⟩
  iapply (seq c)
  iapply (as_wand (part4 m ρ c _ _ _ _)) $$ [HO Hs6 Hr6 Hs7 Hr7 ]
  · isplitr; · iexact HC
    isplitl [HO]; · iexact HO
    isplitl [Hs6]; · iexact Hs6
    isplitl [Hr6]; · unfold r1Any; iexists _; iexact Hr6
    isplitl [Hs7]; · iexact Hs7
    unfold r1Any; iexists _; iexact Hr7
  iintro ⟨-, HO⟩
  iapply (seq c)
  iapply (as_wand (part5 m ρ c _ _)) $$ [HO Hs8 Hq1 Hs9 Hq2 Hs10 Hq3 Ha]
  · isplitr; · iexact HC
    isplitl [HO]; · iexact HO
    isplitl [Hs8]; · iexact Hs8
    isplitl [Hq1]; · unfold r2Any; iexists _; iexact Hq1
    isplitl [Hs9]; · iexact Hs9
    isplitl [Hq2]; · unfold r2Any; iexists _; iexact Hq2
    isplitl [Hs10]; · iexact Hs10
    isplitl [Hq3]; · unfold r2Any; iexists _; iexact Hq3
    iexact Ha
  iintro ⟨-, HO, Ha⟩
  iapply (seq c)
  iapply (as_part (part6 m ρ c _ f0 f1 f2 f3 lev1)) $$ [HO Ha2 Hb Hbb Hp0 Hp1 Hr0 HB]
  · iframe; iexact HC
  iintro %w6 ⟨-, HO, Hb, Ha2, Hbb, Hp0, Hp1, Hr0, HZB, ⟨Hd1, Hd2, Hd3, Hd4, Hd5, Hd6, Hd7, Hd8, Hd9, Hd10⟩⟩
  iapply (seq c)
  iapply (as_part (part7 m ρ c _ _ _ f2)) $$ [HO HT1 Hp1 Hd1 Ha2 Hbb Hp2 Hp3]
  · iframe; iexact HC
  iintro %w7 ⟨-, HO, Hw1, Ha2, Hbb, Hp2, Hp3⟩
  iapply (seq c)
  iapply (as_part (part8 m ρ c _ _ _)) $$ [HO HT2 Hp2 Hd2]
  · iframe; iexact HC
  iintro %w8 ⟨-, HO, Hw2⟩
  iapply (seq c)
  iapply (as_part (part9 m ρ c _ _ _ f2)) $$ [HO HT3 Hp3 Hd3 Ha2 Hbb Hp4 Hp5]
  · iframe; iexact HC
  iintro %w9 ⟨-, HO, Hw3, Ha2, Hbb, Hp4, Hp5⟩
  iapply (seq c)
  iapply (as_part (part10 m ρ c _ _ _)) $$ [HO HT4 Hp4 Hd4 HT5 Hp5 Hd5]
  · iframe; iexact HC
  iintro %w10 ⟨-, HO, Hw4, Hw5⟩
  iapply (seq c)
  iapply (as_part (part11 m ρ c _ _ _ _ f2)) $$ [HO HT6 Hd6 Ha2 Hbb Hp6 Hp7]
  · iframe; iexact HC
  iintro %w11 ⟨-, HO, Hw6, Ha2, Hbb, Hp7⟩
  iapply (seq c)
  iapply (as_part (part12 m ρ c _ _ lev2)) $$ [HO HT7 Hp7 Hd7 Hv7]
  · iframe; iexact HC
  iintro %w12 ⟨-, HO, Hw7, Hz7, Hr7⟩
  iapply (seq c)
  iapply (as_part (part13 m ρ c _ lev2)) $$ [HO Hv6 Hv5 Hv4 Hr7]
  · iframe; iexact HC
  iintro %w13 ⟨-, HO, Hz6, Hz5, Hz4, Hr4, Hr5, Hr6, Hr7⟩
  iapply (seq c)
  iapply (as_part (part14 m ρ c _ _ f4 lev2)) $$ [HO Hv3 Hv2 Hv1 Hr0 Hs]
  · iframe; iexact HC
  iintro %w14 ⟨-, HO, Hz3, Hz2, Hz1, Hr0, Hr1, Hr2, Hr3, Hs⟩
  iapply (seq c)
  iapply (as_part (part15 m ρ c _ _ _ f4 f5)) $$ [HO Hs Hsb HU1 Hd8]
  · iframe; iexact HC
  iintro %w15 ⟨-, HO, Hs, Hsb0, Hw8, Hsb2, Hsb3⟩
  iapply (seq c)
  iapply (as_part (part16 m ρ c _ _ _ _ _)) $$ [HO HU2 Hsb2 Hd9]
  · iframe; iexact HC
  iintro %w16 ⟨-, HO, Hw9⟩
  iapply (seq c)
  iapply (as_wand (part17 m ρ c _ (lev0 3))) $$ [HO HU3 Hsb3 Hd10 Hx3 Hx2]
  · iframe; iexact HC
  iintro ⟨-, HO, Hw10, Hy3, Hy2, Hq3, Hq2⟩
  iapply (seq c)
  iapply (as_wand (part18 m ρ c _ fo (lev0 3) (lev0 0))) $$ [HO Hx1 Hq2 Hq3 Hs Ho Hw1 Hw2]
  · iframe; iexact HC
  iintro ⟨-, HO, Hy1, Hq1, Hq2, Hq3, Hs, Ho, Hc1, Hc2, Hp1, Hp2⟩
  iapply (seq c)
  iapply (as_wand (part19 m ρ c (lev0 0))) $$ [HO Hw3 Hw4 Hw5 Hw6]
  · iframe; iexact HC
  iintro ⟨-, HO, Hc3, Hc4, Hc5, Hc6, Hp3, Hp4, Hp5, Hp6⟩
  simp only [Prog.lift, Prog.bind_op, Prog.bind_ret, Prog.pure_eq_ret]
  iapply (as_wand (left1 m ρ c 7 1 (by decide) (lev0 0))) $$ [HO Hw7]
  · iframe; iexact HC
  iintro ⟨-, HO, Hc7, Hp7⟩
  iapply (as_wand (left2 m ρ c 1 3 (by decide) (lev0 0))) $$ [HO Hw8]
  · iframe; iexact HC
  iintro ⟨-, HO, Hb1, Hsb1⟩
  iapply (as_wand (left2 m ρ c 2 2 (by decide) (lev0 0))) $$ [HO Hw9]
  · iframe; iexact HC
  iintro ⟨-, HO, Hb2, Hsb2⟩
  iapply (as_wand (left2 m ρ c 3 1 (by decide) (lev0 0))) $$ [HO Hw10]
  · iframe; iexact HC
  iintro ⟨-, HO, Hb3, Hsb3⟩
  iapply (ret_step c (ret_step c h))
  isplitr [HF]
  swap; · iexact HF
  isplitl [HO]; · iexact HO
  isplitl [Hc1 Hc2 Hc3 Hc4 Hc5 Hc6 Hc7 Hz1 Hz2 Hz3 Hz4 Hz5 Hz6 Hz7 Hb1 Hb2 Hb3 Hy1 Hy2 Hy3 HZB]; · unfold Zs; iframe
  isplitl [Ha]; · iexact Ha
  isplitl [Hb]; · iexact Hb
  isplitl [Ho]; · iexact Ho
  isplitl [Ha2]; · iexact Ha2
  isplitl [Hbb]; · iexact Hbb
  isplitl [Hp0 Hp1 Hp2 Hp3 Hp4 Hp5 Hp6 Hp7]; · iapply (BIBase.Entails.of_eq (p_cut c (pV m ρ c)).symm); iframe
  isplitl [Hr0 Hr1 Hr2 Hr3 Hr4 Hr5 Hr6 Hr7]; · iapply (BIBase.Entails.of_eq (r1_cut c (r1V m ρ c)).symm); iframe
  isplitl [Hs]; · iexact Hs
  isplitl [Hsb0 Hsb1 Hsb2 Hsb3]; · iapply (BIBase.Entails.of_eq (sb_cut c (sbV m ρ c)).symm); iframe
  iapply (r2_join c f6 (r2V m ρ c)); iframe
end Parts

end Cert.KernelIdealRun
-- ==== Proof.KernelIdealFund.lean ====
/-
The launch's ghost state: every semaphore's invariant, the duty tokens dealt to the devices that pay with them, and the
credit the launch owes each device.
-/
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the semaphores -/

theorem chain8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem chain4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The transfers' semaphores by phase and direction, -/
abbrev DI : Type := (Fin 8 ⊕ Fin 8) ⊕ (Fin 4 ⊕ Fin 4)
abbrev dq : DI → DmaSem sig := Sum.elim (Sum.elim qS1 qR1) (Sum.elim qS2 qR2)
/-- numbered in one row. -/
def dE : DI ≃ Fin 24 := (finSumFinEquiv.sumCongr finSumFinEquiv).trans finSumFinEquiv
theorem osem_dE (x : DI) : osem (dE x) = .dma (dq x) := by
  refine congrArg SemLoc.dma (Fin.ext ?_)
  rcases x with (t | t) | (t | t)
  · rfl
  · show 3 + (8 + t.val) = 11 + t.val; omega
  · show 3 + (16 + t.val) = 19 + t.val; omega
  · show 3 + (16 + (4 + t.val)) = 23 + t.val; omega

/-- The kernel's own semaphores, phase by phase; -/
theorem bigSep_own (Φ : SemLoc sig → sProp 𝕄) :
    (bigSep Finset.univ fun k : Fin 24 => Φ (osem k))
      = iprop(((bigSep Finset.univ fun t : Fin 8 => Φ (.dma (qS1 t))) ∗ bigSep Finset.univ fun t : Fin 8 => Φ (.dma (qR1 t)))
          ∗ (bigSep Finset.univ fun u : Fin 4 => Φ (.dma (qS2 u))) ∗ bigSep Finset.univ fun u : Fin 4 => Φ (.dma (qR2 u))) := by
  rw [bigSep_univ_equiv dE (fun k : Fin 24 => Φ (osem k)), bigSep_congr (fun x _ => congrArg Φ (osem_dE x)), bigSep_univ_sum, bigSep_univ_sum, bigSep_univ_sum]
  rfl
/-- with the barrier's. -/
theorem bigSep_ci (Φ : SemLoc sig → sProp 𝕄) :
    (bigSep Finset.univ fun k : CI => Φ (csem k)) = iprop((bigSep Finset.univ fun k : Fin 24 => Φ (osem k)) ∗ Φ (.reg barS)) := by
  rw [bigSep_univ_sum, bigSep_univ_of_subsingleton ()]; rfl

/-! ## The tokens -/

theorem csem_inj : Function.Injective csem := by decide
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-- A semaphore's duties as minted: the barrier's by name, a transfer's one. -/
abbrev tokN : Du ⊕ DI → SemLoc sig × Du := Sum.elim (fun d => (.reg barS, d)) fun x => (.dma (dq x), .inl 0)
theorem tokN_inj : Function.Injective tokN := by decide
abbrev tokOf (cj : Dev nD × (Du ⊕ DI)) : GSem nD τ sig × ℕ × Du := (((cj.1 : Thread nD τ), (tokN cj.2).1), 0, (tokN cj.2).2)
theorem tokOf_injective : Function.Injective (tokOf : Dev nD × (Du ⊕ DI) → GSem nD τ sig × ℕ × Du) := by
  rintro ⟨c, j⟩ ⟨c', j'⟩ h
  have h1 : c = c' := congrArg (fun x : GSem nD τ sig × ℕ × Du => x.1.1.1) h
  have h2 : j = j' := tokN_inj (congrArg (fun x : GSem nD τ sig × ℕ × Du => (x.1.2, x.2.2)) h)
  rw [h1, h2]
def allToks : Finset (GSem nD τ sig × ℕ × Du) := Finset.univ.map ⟨tokOf, tokOf_injective⟩

/-- The launch's ghost element: the staging pipeline's and the protocol's. -/
def u₀ : UU :=
  (initOf (Pipeline.cells cfgs cellOf_inj) (Pipeline.launchToks cfgs cellOf_inj), initOf allCells allToks)

/-- A transfer's duty token. -/
abbrev dtok (c : Dev nD) (q : DmaSem sig) : sProp 𝕄 := dutyTok ER (dC c q) 0 (.inl 0)

/-- The tokens of a device's own semaphores; -/
def toks (c : Dev nD) : sProp 𝕄 :=
  iprop((bigSep Finset.univ fun t : Fin 8 => dutyTok ER (barC c) 0 (.inl t)) ∗ (bigSep Finset.univ fun u : Fin 4 => dutyTok ER (barC c) 0 (.inr u))
    ∗ (bigSep Finset.univ fun t : Fin 8 => dtok c (qS1 t)) ∗ (bigSep Finset.univ fun t : Fin 8 => dtok c (qR1 t))
    ∗ (bigSep Finset.univ fun u : Fin 4 => dtok c (qS2 u)) ∗ bigSep Finset.univ fun u : Fin 4 => dtok c (qR2 u))
/-- those it pays with. -/
def payToks (c : Dev nD) : sProp 𝕄 :=
  iprop((bigSep Finset.univ fun t : Fin 8 => SgM c t) ∗ (bigSep Finset.univ fun u : Fin 4 => SgC c u)
    ∗ (bigSep Finset.univ fun t : Fin 8 => dtok c (qS1 t)) ∗ (bigSep Finset.univ fun t : Fin 8 => dtok (memP c t) (qR1 (-t)))
    ∗ (bigSep Finset.univ fun u : Fin 4 => dtok c (qS2 u)) ∗ bigSep Finset.univ fun u : Fin 4 => dtok (cubP c u) (qR2 (-u)))

/-- Each device with each distance, seen from the other end; -/
def memX : Dev nD × Fin 8 ≃ Dev nD × Fin 8 where
  toFun x := (memP x.1 x.2, -x.2)
  invFun x := (memP x.1 x.2, -x.2)
  left_inv x := Prod.ext (memP_neg x.1 x.2) (nn8 x.2)
  right_inv x := Prod.ext (memP_neg x.1 x.2) (nn8 x.2)
/-- likewise between cubes. -/
def cubX : Dev nD × Fin 4 ≃ Dev nD × Fin 4 where
  toFun x := (cubP x.1 x.2, -x.2)
  invFun x := (cubP x.1 x.2, -x.2)
  left_inv x := Prod.ext (cubP_neg x.1 x.2) (nn4 x.2)
  right_inv x := Prod.ext (cubP_neg x.1 x.2) (nn4 x.2)

theorem around_mem (f : Dev nD → Fin 8 → sProp 𝕄) :
    (bigSep Finset.univ fun c : Dev nD => bigSep Finset.univ fun t : Fin 8 => f c t)
      = bigSep Finset.univ fun c : Dev nD => bigSep Finset.univ fun t : Fin 8 => f (memP c t) (-t) := by
  rw [← bigSep_univ_prod (fun x : Dev nD × Fin 8 => f x.1 x.2), ← bigSep_univ_prod (fun x : Dev nD × Fin 8 => f (memP x.1 x.2) (-x.2)),
    bigSep_univ_equiv memX (fun x : Dev nD × Fin 8 => f x.1 x.2)]
  rfl
theorem around_cub (f : Dev nD → Fin 4 → sProp 𝕄) :
    (bigSep Finset.univ fun c : Dev nD => bigSep Finset.univ fun u : Fin 4 => f c u)
      = bigSep Finset.univ fun c : Dev nD => bigSep Finset.univ fun u : Fin 4 => f (cubP c u) (-u) := by
  rw [← bigSep_univ_prod (fun x : Dev nD × Fin 4 => f x.1 x.2), ← bigSep_univ_prod (fun x : Dev nD × Fin 4 => f (cubP x.1 x.2) (-x.2)),
    bigSep_univ_equiv cubX (fun x : Dev nD × Fin 4 => f x.1 x.2)]
  rfl

/-- The tokens dealt to their payers. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep', bigSep_sep', bigSep_sep',
    around_mem (fun c t => dutyTok ER (barC c) 0 (.inl t)), around_cub (fun c u => dutyTok ER (barC c) 0 (.inr u)),
    around_mem (fun c t => dtok c (qR1 t)), around_cub (fun c u => dtok c (qR2 u))]
  rfl

/-! ## Allocation -/

/-- What the launch element deals a device; -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

/-- what all may use of it, but for the levels; -/
def Inv : sProp 𝕄 :=
  iprop((bigSep Finset.univ fun ck : Dev nD × CI => iprop(∃ κ : ℕ, cellInv ER (sched m ρ) κ (kcell ck)))
    ∗ (bigSep Finset.univ fun ck : Dev nD × CI => reached ER (kcell ck) 0))
instance Inv_persistent : BI.Persistent (Inv (F := F) m ρ) := by unfold Inv; infer_instance
/-- what a device has of it in the end. -/
def G' (c : Dev nD) : sProp 𝕄 := iprop(Inv m ρ ∗ (bigSep Finset.univ fun k : CI => atPos ER (kcell (c, k)) 0 ∅ 0) ∗ payToks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks
      rw [bigSep_univ_sum, bigSep_univ_sum, bigSep_univ_sum, bigSep_univ_sum, bigSep_univ_sum]
      have A0 (P Q R : sProp 𝕄) : iprop((P ∗ Q) ∗ R) = iprop(P ∗ Q ∗ R) := equiv_iff.mp ⟨BI.sep_assoc, BI.sep_assoc'⟩
      have A (P Q R S T U : sProp 𝕄) : iprop((P ∗ Q) ∗ (R ∗ S) ∗ T ∗ U) = iprop(P ∗ Q ∗ R ∗ S ∗ T ∗ U) := by rw [A0, A0]
      exact A _ _ _ _ _ _
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : CI => semVal (kcell (c, k)) 0 : sProp 𝕄) :=
  (congrArg (fun P : sProp 𝕄 => iprop(Pipeline.ownSems0 (Ix := Unit) (Name := ℕ) (U := UU) (Lvl := ℕ) (Val := Elt F) (τ := τ) osem c ∗ P)) (unscopedSems0_eq c)).trans
    (bigSep_ci fun sm => semVal ((c : Thread nD τ), sm) 0).symm

/-- A device's semaphores at zero become its invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨#HI, ⟨Hat, #HR⟩, Htok⟩
  iapply (bigSep_with_persistent (S := Finset.univ) (R := Inv m ρ) (Φ := fun c => iprop((bigSep Finset.univ fun k : CI => atPos ER (kcell (c, k)) 0 ∅ 0) ∗ payToks c))
    (Ψ := G' m ρ) fun c _ => BI.Entails.refl _)
  isplitr
  · unfold Inv; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htok

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

namespace Ob
/-- Which of its semaphores a raise is of, -/
def sm : Ob → SemLoc sig
  | sigM _ | sigC _ => .reg barS | snd1 t => .dma (qR1 (-t)) | snd2 u => .dma (qR2 (-u))
/-- and whose. -/
def dst : Ob → Dev nD ≃ Dev nD
  | sigM t | snd1 t => memE t | sigC u | snd2 u => cubE u
theorem cell_eq (c : Dev nD) (x : Ob) : x.cell c = ((x.dst c : Thread nD τ), x.sm) := by cases x <;> rfl
end Ob

/-- What a list of raises comes to on a semaphore of each device. -/
def total (sm : SemLoc sig) : List Ob → ℕ
  | [] => 0
  | x :: l => total sm l + if x.sm = sm then x.amt else 0

/-- All devices' raises of one device's semaphore: each of the list once. -/
theorem sum_owed (c : Dev nD) (sm : SemLoc sig) : ∀ l : List Ob, ∑ d : Dev nD, sumO d l ((c : Thread nD τ), sm) () = total sm l
  | [] => Finset.sum_const_zero
  | x :: l => by
    have h (d : Dev nD) : sumO d (x :: l) ((c : Thread nD τ), sm) ()
        = sumO d l ((c : Thread nD τ), sm) () + if d = x.dst.symm c then (if x.sm = sm then x.amt else 0) else 0 := by
      show (sumO d l + tallyAt (x.cell d) () x.amt) ((c : Thread nD τ), sm) () = _
      rw [Pi.add_apply, Finsupp.add_apply, tallyAt_apply, x.cell_eq]
      congr 1
      by_cases hd : d = x.dst.symm c
      · subst hd
        rw [Equiv.apply_symm_apply]
        by_cases hs : x.sm = sm
        · subst hs; rw [if_pos ⟨rfl, rfl⟩, if_pos rfl, if_pos rfl]
        · rw [if_neg (fun h => hs (congrArg Prod.snd h.1).symm), if_pos rfl, if_neg hs]
      · rw [if_neg (fun h => hd ((Equiv.eq_symm_apply _).mpr (congrArg (fun g : GSem nD τ sig => g.1.1) h.1).symm)), if_neg hd]
    rw [Finset.sum_congr rfl fun d _ => h d, Finset.sum_add_distrib, sum_owed c sm l, Finset.sum_ite_eq' Finset.univ (x.dst.symm c), if_pos (Finset.mem_univ _)]
    rfl

theorem launch_at (c : Dev nD) (sm : SemLoc sig) (n : ℕ) (h : total sm obs = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same]
  exact (sum_owed c sm obs).trans h

/-- A device's credit: its barrier's ten signals, and each arrival. -/
theorem creds (c : Dev nD) :
    (Pipeline.launchCred O₀ c : sProp 𝕄) ⊢ iprop(cred (tallyAt (barC c) () 10)
      ∗ cred (tallyAt (dC c (qR1 1)) () N1) ∗ cred (tallyAt (dC c (qR1 2)) () N1) ∗ cred (tallyAt (dC c (qR1 3)) () N1) ∗ cred (tallyAt (dC c (qR1 4)) () N1)
      ∗ cred (tallyAt (dC c (qR1 5)) () N1) ∗ cred (tallyAt (dC c (qR1 6)) () N1) ∗ cred (tallyAt (dC c (qR1 7)) () N1)
      ∗ cred (tallyAt (dC c (qR2 1)) () N2) ∗ cred (tallyAt (dC c (qR2 2)) () N2) ∗ cred (tallyAt (dC c (qR2 3)) () N2)) := by
  have e (sm : SemLoc sig) (n : ℕ) (h : total sm obs = n) :
      (cred (tallyOn ((c : Thread nD τ), sm) (launchCredit (Pipeline.owing O₀) 0 ((c : Thread nD τ), sm))) : sProp 𝕄) = cred (tallyAt ((c : Thread nD τ), sm) () n) :=
    congrArg cred (launch_at c sm n h)
  unfold Pipeline.launchCred
  refine (bigSep_subset (Finset.subset_univ ([.reg barS, .dma (qR1 1), .dma (qR1 2), .dma (qR1 3), .dma (qR1 4), .dma (qR1 5), .dma (qR1 6), .dma (qR1 7),
    .dma (qR2 1), .dma (qR2 2), .dma (qR2 3)] : List (SemLoc sig)).toFinset)).trans ?_
  rw [bigSep_eq_bigSepL_of_eq _ rfl (by decide)]
  rw [← e (.reg barS) 10 (by decide +kernel), ← e (.dma (qR1 1)) N1 (by decide +kernel), ← e (.dma (qR1 2)) N1 (by decide +kernel), ← e (.dma (qR1 3)) N1 (by decide +kernel),
    ← e (.dma (qR1 4)) N1 (by decide +kernel), ← e (.dma (qR1 5)) N1 (by decide +kernel), ← e (.dma (qR1 6)) N1 (by decide +kernel), ← e (.dma (qR1 7)) N1 (by decide +kernel),
    ← e (.dma (qR2 1)) N2 (by decide +kernel), ← e (.dma (qR2 2)) N2 (by decide +kernel), ← e (.dma (qR2 3)) N2 (by decide +kernel)]
  exact BI.Entails.refl _

end Cert.KernelIdealRun

end
-- ==== Proof.KernelIdealLaunch.lean ====
/-
The launch: the body's obligation from the body, what each device starts from and leaves, and the run of the whole
program, at any float operations and from any memory with its semaphores at zero.
-/
module

public import proofs.«01_k».proof.Proof.KernelIdealFund
public import proofs.«01_k».proof.Proof.Gen.KernelIdeal.Frame
public import Idealize.ShloMosaic.Lib.Pipeline.CollectiveSegs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves -/

/-- The semaphores of distance 0, never raised, at zero. -/
def Us (c : Dev nD) : sProp 𝕄 := iprop(Z c (qS1 0) ∗ Z c (qR1 0) ∗ Z c (qS2 0) ∗ Z c (qR2 0))
/-- The scratch buffers, holding anything. -/
def Scr (c : Dev nD) : sProp 𝕄 :=
  iprop((∃ f, wh c a2M f) ∗ (∃ f, wh c bbM f) ∗ (∃ f, wh c pM f) ∗ (∃ f, wh c r1M f) ∗ (∃ f, wh c sM f) ∗ (∃ f, wh c sbM f) ∗ (∃ f, wh c r2M f))
/-- The protocol's share of what a device starts from. -/
def start (c : Dev nD) : sProp 𝕄 := iprop(Ctx m ρ ∗ Tok c ∗ Us c)
def Φ₀ (c : Dev nD) : sProp 𝕄 := iprop(start m ρ c ∗ Scr c)
def Φ₁ (c : Dev nD) : sProp 𝕄 := iprop((Zs c ∗ Us c) ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aV m ρ c
    | ⟨1, _⟩ => bV m ρ c
    | ⟨2, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (aV m ρ c) ∗ stg c cc0_stg1_0 (bV m ρ c) ∗ stg c cc0_stg2_0 (outV m ρ c))

theorem before_a (c : Dev nD) (d) : (dats m ρ 0 c).before (0 : Fin 3) t0_0 d = aV m ρ c := by
  unfold Dat.before; rw [if_pos (fetch0_0 t0_0)]; rfl
theorem before_b (c : Dev nD) (d) : (dats m ρ 0 c).before (1 : Fin 3) t0_0 d = bV m ρ c := by
  unfold Dat.before; rw [if_pos (fetch0_1 t0_0)]; rfl

theorem wh_eq (c : Dev nD) {sp : CoreSpace} {s : Shape} {e : EltTy} (mr : Memref sig .tc (.core sp) s e) (X) :
    (wh c mr X : sProp 𝕄) = (mr.view.loc (c : Thread nD τ) ↦{fullShare} X) := rfl

/-- What the body leaves is what its obligation asks for. -/
theorem body_post (c : Dev nD) :
    iprop((owesA c [] ∗ Zs c ∗ wh c aM (aV m ρ c) ∗ wh c bM (bV m ρ c) ∗ wh c oM (outV m ρ c) ∗ wh c a2M (a2V m ρ c) ∗ wh c bbM (bbV m ρ c) ∗ wh c pM (pV m ρ c)
      ∗ wh c r1M (r1V m ρ c) ∗ wh c sM (sV m ρ c) ∗ wh c sbM (sbV m ρ c) ∗ (∃ f, wh c r2M f)) ∗ Us c) ⊢ bodyPost m ρ c := by
  unfold bodyPost Φ₁ Scr Dat.owesAt Pipeline.owesWithin owesA
  rw [show (dats m ρ 0 c).owed t0_0.succ = sumO c [] from rfl]
  iintro ⟨⟨⟨%W, HO⟩, HZ, Ha, Hb, Ho, H0, H1, H2, H3, H4, H5, H6⟩, HU⟩
  isplitl [HZ HU H0 H1 H2 H3 H4 H5 H6]
  · isplitl [HZ HU]; · isplitl [HZ] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact H6
  isplitl [HO]
  · iexists W
    isplitr; · ipureintro; exact fun _ _ => Or.inl trivial
    iexact HO
  isplitl [Ha]
  · iexists _; isplitr; · (ipureintro; rfl)
    iapply (BIBase.Entails.of_eq (wh_eq (F := F) c aM (aV m ρ c))); iexact Ha
  isplitl [Hb]
  · iexists _; isplitr; · (ipureintro; rfl)
    iapply (BIBase.Entails.of_eq (wh_eq (F := F) c bM (bV m ρ c))); iexact Hb
  iexists _; isplitr; · (ipureintro; rfl)
  iapply (BIBase.Entails.of_eq (wh_eq (F := F) c oM (outV m ρ c))); iexact Ho

set_option maxRecDepth 4000 in
/-- The body's obligation at each device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c
    (cc0_body (F := F) aM (Memref.isWhole_whole _) bM (Memref.isWhole_whole _) oM (Memref.isWhole_whole _) a2M (Memref.isWhole_whole _) bbM (Memref.isWhole_whole _)
      pM (Memref.isWhole_whole _) r1M (Memref.isWhole_whole _) sM (Memref.isWhole_whole _) sbM (Memref.isWhole_whole _) r2M (Memref.isWhole_whole _)
      cc0_scratch7 cc0_scratch8 cc0_scratch9 cc0_scratch10) (fun _ => bodyPost m ρ c)
  unfold bodyPre Φ₀ start Scr Dat.owesAt Pipeline.owesWithin
  rw [show (dats m ρ 0 c).owed t0_0.castSucc = sumO c obs from rfl]
  iintro ⟨⟨⟨#HC, HT, HU⟩, ⟨%f0, H0⟩, ⟨%f1, H1⟩, ⟨%f2, H2⟩, ⟨%f3, H3⟩, ⟨%f4, H4⟩, ⟨%f5, H5⟩, ⟨%f6, H6⟩⟩, ⟨%W, %hW, HO⟩,
    ⟨%d0, %g0, %hg0, Ha⟩, ⟨%d1, %g1, %hg1, Hb⟩, ⟨%d2, %g2, %hg2, Ho⟩⟩
  have ha : g0 = aV m ρ c := hg0.trans (before_a m ρ c d0)
  have hb : g1 = bV m ρ c := hg1.trans (before_b m ρ c d1)
  subst ha hb
  iapply (body m ρ c g2 f0 f1 f2 f3 f4 f5 f6 (Q := fun _ => bodyPost m ρ c) (body_post m ρ c))
  isplitr [HU]
  · isplitr; · iexact HC
    isplitl [HO]; · unfold owesA; iexists W; iexact HO
    isplitl [HT]; · iexact HT
    isplitl [Ha]; · iapply (BIBase.Entails.of_eq (wh_eq (F := F) c aM (aV m ρ c)).symm); iexact Ha
    isplitl [Hb]; · iapply (BIBase.Entails.of_eq (wh_eq (F := F) c bM (bV m ρ c)).symm); iexact Hb
    isplitl [Ho]; · iapply (BIBase.Entails.of_eq (wh_eq (F := F) c oM (g2)).symm); iexact Ho
    isplitl [H0]; · iexact H0
    isplitl [H1]; · iexact H1
    isplitl [H2]; · iexact H2
    isplitl [H3]; · iexact H3
    isplitl [H4]; · iexact H4
    isplitl [H5]; · iexact H5
    iexact H6
  iexact HU

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- A semaphore of distance 0 done with at once. -/
theorem close_unused (c : Dev nD) (q : DmaSem sig) (h : used q = false) (h3 : 3 ≤ q.val) :
    iprop(Ctx (F := F) m ρ ∗ atPos ER (dC c q) 0 ∅ 0) ⊢ |={Set.univ}=> Z c q := by
  iintro ⟨#HC, Hat⟩
  ihave #Hc := Ctx_dma m ρ c q h3 $$ HC
  unfold Cell
  icases Hc with ⟨⟨%κ, #HI⟩, -, -⟩
  imod (Rounds.cell_close ER (sched m ρ) (Set.mem_univ κ) (fun h => h) (g := dC c q) (R := 0) (duties_unused m ρ c q h)) $$ [Hat] with HZ
  · isplitr; · iexact HI
    iexact Hat
  imodintro
  unfold Z; iexact HZ

/-- A device's positions, one by one. -/
theorem pos_eq (c : Dev nD) : (bigSep Finset.univ fun k : CI => (atPos ER (kcell (c, k)) 0 ∅ 0 : sProp 𝕄))
    = iprop((((bigSep Finset.univ fun t : Fin 8 => atPos ER (dC c (qS1 t)) 0 ∅ 0) ∗ bigSep Finset.univ fun t : Fin 8 => atPos ER (dC c (qR1 t)) 0 ∅ 0)
          ∗ (bigSep Finset.univ fun u : Fin 4 => atPos ER (dC c (qS2 u)) 0 ∅ 0) ∗ bigSep Finset.univ fun u : Fin 4 => atPos ER (dC c (qR2 u)) 0 ∅ 0)
        ∗ atPos ER (barC c) 0 ∅ 0) :=
  (bigSep_ci fun sm => (atPos ER ((c : Thread nD τ), sm) 0 ∅ 0 : sProp 𝕄)).trans
    (congrArg (fun P : sProp 𝕄 => iprop(P ∗ atPos ER (barC c) 0 ∅ 0)) (bigSep_own fun sm => (atPos ER ((c : Thread nD τ), sm) 0 ∅ 0 : sProp 𝕄)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  icases (creds (F := F) c) $$ Hcr with ⟨C0, C1, C2, C3, C4, C5, C6, C7, D1, D2, D3⟩
  unfold G'
  icases HG with ⟨#HI, Hat, Htk⟩
  ihave #HC : Ctx m ρ $$ []
  · unfold Ctx Inv
    icases HI with ⟨#H1, #H2⟩
    isplitr; · iexact H1
    isplitr; · iexact H2
    iexact Hlev
  ihave Hat := (BIBase.Entails.of_eq (pos_eq (F := F) c)) $$ Hat
  unfold payToks
  rw [chain8, chain8, chain8, chain8, chain8, chain4, chain4, chain4, chain4, chain4]
  icases Hat with ⟨⟨⟨⟨S0, S1, S2, S3, S4, S5, S6, S7⟩, R0, R1, R2, R3, R4, R5, R6, R7⟩, ⟨U0, U1, U2, U3⟩, V0, V1, V2, V3⟩, HB⟩
  icases Htk with ⟨⟨-, A1, A2, A3, A4, A5, A6, A7⟩, ⟨-, B1, B2, B3⟩, ⟨-, E1, E2, E3, E4, E5, E6, E7⟩, ⟨-, F1, F2, F3, F4, F5, F6, F7⟩,
    ⟨-, G1, G2, G3⟩, -, K1, K2, K3⟩
  imod (close_unused m ρ c (qS1 0) (by decide) (by decide)) $$ [S0] with S0
  · isplitr; · iexact HC
    iexact S0
  imod (close_unused m ρ c (qR1 0) (by decide) (by decide)) $$ [R0] with R0
  · isplitr; · iexact HC
    iexact R0
  imod (close_unused m ρ c (qS2 0) (by decide) (by decide)) $$ [U0] with U0
  · isplitr; · iexact HC
    iexact U0
  imod (close_unused m ρ c (qR2 0) (by decide) (by decide)) $$ [V0] with V0
  · isplitr; · iexact HC
    iexact V0
  imodintro
  unfold start Tok Us T1 T2 Wq WB
  iframe
  iexact HC

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold Scr; iexact Hr

/-- All of a device's semaphores at zero at the end. -/
theorem sems_join (c : Dev nD) :
    iprop(Zs c ∗ Us c) ⊢ (iprop(unscopedSems0 c ∗ Pipeline.ownSems0 (Ix := Unit) (Name := ℕ) (U := UU) (Lvl := ℕ) (Val := Elt F) (τ := τ) osem c) : sProp 𝕄) := by
  rw [unscopedSems0_eq]
  unfold Pipeline.ownSems0
  rw [bigSep_own (fun sm => (semVal ((c : Thread nD τ), sm) 0 : sProp 𝕄)), chain8, chain8, chain4, chain4]
  unfold Zs Us Z ZB
  iintro ⟨⟨S1, S2, S3, S4, S5, S6, S7, R1, R2, R3, R4, R5, R6, R7, U1, U2, U3, V1, V2, V3, HB⟩, S0, R0, U0, V0⟩
  iframe

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ Scr
  iintro ⟨HZ, Hr⟩
  icases (sems_join (F := F) c) $$ HZ with ⟨HU, HO⟩
  isplitl [HU]; · iexact HU
  isplitl [HO]; · iexact HO
  iexact Hr

theorem lev_pos : ∀ x ∈ obs, 0 < x.lev := by decide

theorem lv_low (c : Dev nD) (q : DmaSem sig) (h : q.val < 3) : lv ((c : Thread nD τ), .dma q) () ≤ 0 := by
  show (if 23 ≤ q.val then 3 else if 11 ≤ q.val ∧ q.val < 19 then 2 else 0) ≤ 0
  rw [if_neg (by omega), if_neg (by omega)]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ obs 0 (lv_low c _ (by fin_cases w <;> fin_cases s <;> decide)) lev_pos
    · exact mayWait c _ [] 0 (lv_low c _ (by fin_cases w <;> fin_cases s <;> decide)) (fun _ h => absurd h List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its semaphores at zero, every weakly fair execution of the program on the 32 devices ends, each
    device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were, -/
theorem finalA_a (c : Dev nD) : finalA m ρ c (0 : Fin 3) = m ((c : Thread nD τ).loc main_arg0) := (dats (F := F) m ρ 0 c).arrAt_in (0 : Fin 3) rfl _
theorem finalA_b (c : Dev nD) : finalA m ρ c (1 : Fin 3) = m ((c : Thread nD τ).loc main_arg1) := (dats (F := F) m ρ 0 c).arrAt_in (1 : Fin 3) rfl _
/-- and the result holds what the body computes. -/
theorem finalA_o (c : Dev nD) : (win0_2.blk (0 : Fin 1)).view.read (Elt F) (finalA m ρ c (2 : Fin 3)) = outV m ρ c :=
  (dats (F := F) m ρ 0 c).read_blk_arrAt_eq_flushed (2 : Fin 3)
    (fun t t' _ _ h => absurd ((fin_N0 t).trans (fin_N0 t').symm) h) cfg0.N t0_0 t0_0.isLt (flush0_2 _)

/-- The run, with the arguments unchanged and the semaphores back at zero. -/
theorem run : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ (win0_2.blk (0 : Fin 1)).view.read (Elt F) (r.2.mem ((c.tc : Thread nD τ).loc main_v1)) = outV m ρ c)
    ∧ r.2.sem = fun _ => 0) :=
  (θ_run defs _ _).mono (fun r h => ⟨fun c => ⟨(h.1 c 0).trans (finalA_a m ρ c), (h.1 c 1).trans (finalA_b m ρ c),
    (congrArg ((win0_2.blk (0 : Fin 1)).view.read (Elt F)) (h.1 c 2)).trans (finalA_o m ρ c)⟩, h.2⟩) (run_main m ρ)

end Cert.KernelIdealRun

end
-- ==== Proof.KernelIdealValue.lean ====
/-
What the kernel computes over the extended reals, read at an index: device `c`'s result is block `c` of the product of the
whole arrays.

`partV d` is the product of device `d`'s own blocks. The kernel's regrouping of the rows sends each member of the own cube, and
later each cube, just the rows it is to keep; so row `e` of the result is the sum, over the cubes and their members, of row
`24 c + e` of `partV`. That sum is one over all devices, and with the sum inside each product one over all 12288 columns of `A`.
-/
module

public import proofs.«01_k».proof.Proof.KernelIdealVals
public import proofs.«01_k».proof.Proof.Gen.ReferenceIdeal
public import Idealize.ShloMosaic.Lib.Pointwise
public import Idealize.ShloMosaic.Lib.Layout

@[expose] public section

noncomputable section

namespace Cert.KernelIdealRun

open Cert.KernelIdeal Cert.KernelIdeal.Gen

open Idealize.ShloMosaic
open Idealize.ShloMosaic.TcCoe

/-! ## The payloads at an index -/

/-- Row `24 (pos q b) + e` of a block is row `96 b + 24 q + e` of the regrouped one. -/
theorem regroup_apply (v : Vec Ideal S768x384 .f32) (q : Fin 4) (b : Fin 8) (e : Fin 24) (r : Fin 768) (k : Fin 384)
    (hr : r.val = 96 * b.val + 24 * q.val + e.val) :
    k0_pay3 (k0_pay1 v) (ix2 r k)
      = v (ix2 ⟨24 * (pos q b).val + e.val, by have h : (pos q b).val < 32 := (pos q b).isLt; have := e.isLt; omega⟩ k) := by
  pointwise [k0_pay3, k0_pay2, k0_pay1]
  refine congrArg v (idx2_ext ?_ rfl)
  have := q.isLt; have := b.isLt; have := e.isLt
  show _ = 24 * (16 * (q.val / 2) + 8 * (b.val / 4) + 4 * (q.val % 2) + b.val % 4) + e.val
  rw [ix2_0]
  show r.val / 48 % 2 * 384 + r.val / 384 * 192 + r.val / 24 % 2 * 96 + r.val / 96 % 4 * 24 + r.val % 24 = _
  omega

/-- Rounding `B` is nothing. -/
theorem pay5_apply (v : Vec Ideal S384x768 .f32) (k : Fin 384) (l : Fin 768) : k0_pay5 v (ix2 k l) = v (ix2 k l) := by
  pointwise [k0_pay5]

/-- One of the four products. -/
theorem pay6_apply (v : Vec Ideal S192x384 .bf16) (w : Vec Ideal S384x768 .bf16) (r : Fin 192) (l : Fin 768) :
    k0_pay6 v w (ix2 r l) = ∑ k : Fin 384, v (ix2 r k) * w (ix2 k l) := by
  pointwise [k0_pay6]

/-- The cube's sum, from both halves of the landing buffer. -/
theorem pay12_apply (h l : Vec Ideal S4x96x768 .bf16) (r : Fin 96) (n : Fin 768) :
    k0_pay12 (k0_pay11 h) l (ix2 r n) = (∑ t : Fin 4, h (ix3 t r n)) + ∑ t : Fin 4, l (ix3 t r n) := by
  pointwise [k0_pay12, k0_pay11]

/-- Keeping it is nothing, -/
theorem pay13_apply (v : FVec Ideal S96x768 .f32) (r : Fin 96) (n : Fin 768) : k0_pay13 v (ix2 r n) = v (ix2 r n) := by
  pointwise [k0_pay13]
/-- nor is rounding it. -/
theorem pay14_apply (v : FVec Ideal S96x768 .f32) (r : Fin 96) (n : Fin 768) : k0_pay14 v (ix2 r n) = v (ix2 r n) := by
  pointwise [k0_pay14]

/-- The sum over the cubes. -/
theorem pay15_apply (v : Vec Ideal S24x768 .f32) (w : Vec Ideal S3x24x768 .bf16) (r : Fin 24) (n : Fin 768) :
    k0_pay15 v w (ix2 r n) = v (ix2 r n) + ∑ t : Fin 3, w (ix3 t r n) := by
  pointwise [k0_pay15]

/-! ## The devices, counted cube by cube -/

/-- Counting on from any cube and any member visits every device once. -/
theorem pos_bij (a : Fin 4) (b : Fin 8) : Function.Bijective fun p : Fin 4 × Fin 8 => (pos (a + p.1) (b + p.2) : Fin 32) := by
  refine (Fintype.bijective_iff_injective_and_card _).mpr ⟨fun p p' h => ?_, by simp⟩
  have hC := congrArg C h
  have hM := congrArg M h
  simp only [C_pos, M_pos, add_right_inj] at hC hM
  exact Prod.ext hC hM

/-- So a sum over the cubes and their members is one over the devices. -/
theorem sum_pos (f : Fin 32 → EReal) (a : Fin 4) (b : Fin 8) :
    ∑ u : Fin 4, ∑ t : Fin 8, f (pos (a + u) (b + t)) = ∑ d : Fin 32, f d := by
  rw [← Fintype.sum_prod_type']
  exact Fintype.sum_bijective _ (pos_bij a b) _ _ fun _ => rfl

/-- A sum over 12288 columns, block by block. -/
theorem sum_cols (f : Fin 12288 → EReal) :
    ∑ d : Fin 32, ∑ k : Fin 384, f ⟨d.val * 384 + k.val, by omega⟩ = ∑ j : Fin 12288, f j := by
  rw [← Fintype.sum_prod_type', ← Equiv.sum_comp (finProdFinEquiv : Fin 32 × Fin 384 ≃ Fin (32 * 384)) f]
  refine Finset.sum_congr rfl fun p _ => congrArg f (Fin.ext ?_)
  show p.1.val * 384 + p.2.val = p.2.val + 384 * p.1.val
  omega

/-! ## The stages -/

variable (m : (ℓ : Loc nD τ sig) → Buf (Elt Ideal) ℓ) (ρ : Dev nD → PrngReg)

/-- The product of a device's own blocks. -/
def partV (d : Dev nD) (r n : Fin 768) : EReal := ∑ k : Fin 384, aV m ρ d (ix2 r k) * bV m ρ d (ix2 k n)

/-- The product as the kernel holds it, its rows turned so that the own member's come first. -/
theorem p_apply (d : Dev nD) (r n : Fin 768) :
    pV m ρ d (ix2 r n) = ∑ k : Fin 384, agV m ρ d (ix2 ⟨(96 * (M d).val + r.val) % 768, Nat.mod_lt _ (by decide)⟩ k) * bV m ρ d (ix2 k n) := by
  refine (pay6_apply _ _ _ _).trans (Finset.sum_congr rfl fun k _ => ?_)
  refine congrArg₂ (· * ·) (congrArg (agV m ρ d) (idx2_ext ?_ rfl)) (pay5_apply _ _ _)
  show (96 * (M d).val + 192 * (r.val / 192) + r.val % 192) % 768 = (96 * (M d).val + r.val) % 768
  omega

/-- Going `s` members on and `s` back. -/
theorem turn8 : ∀ b s : Fin 8, ((b + s).val + (-s).val) % 8 = b.val := by decide

/-- What lands in slot `s`: the rows for cube `q`'s member of this number are that device's rows of member `s`'s product. -/
theorem blk_apply (c : Dev nD) (s : Fin 8) (q : Fin 4) (e : Fin 24) (y : Fin 96) (hy : y.val = 24 * q.val + e.val) (n : Fin 768)
    (r : Fin 768) (hr : r.val = 24 * (pos q (M c)).val + e.val) :
    blkV m ρ c s (ix2 y n) = partV m ρ (memP c s) r n := by
  refine (p_apply m ρ (memP c s) _ n).trans (Finset.sum_congr rfl fun k _ => congrArg (· * _) ?_)
  refine (regroup_apply _ q (M c) e _ k ?_).trans (congrArg (aV m ρ (memP c s)) (idx2_ext hr.symm rfl))
  show (96 * (M (memP c s)).val + (96 * (-s).val + y.val)) % 768 = _
  have := turn8 (M c) s
  rw [M_memP, hy]
  omega

/-- The cube's sum. -/
theorem sum_apply (c : Dev nD) (q : Fin 4) (e : Fin 24) (y : Fin 96) (hy : y.val = 24 * q.val + e.val) (n : Fin 768)
    (r : Fin 768) (hr : r.val = 24 * (pos q (M c)).val + e.val) :
    sumV m ρ c (ix2 y n) = ∑ t : Fin 8, partV m ρ (memP c t) r n := by
  refine (pay12_apply _ _ y n).trans (Eq.trans ?_ (Fin.sum_univ_add (a := 4) (b := 4) fun t : Fin 8 => partV m ρ (memP c t) r n).symm)
  rw [add_comm]
  refine congrArg₂ (· + ·) (Finset.sum_congr rfl fun t _ => ?_) (Finset.sum_congr rfl fun t _ => ?_)
  · exact blk_apply m ρ c (Fin.castAdd 4 t) q e y hy n r hr
  · exact blk_apply m ρ c (Fin.natAdd 4 t) q e y hy n r hr

/-- This device's rows of the sum of the cube `s` places on. -/
theorem cube_apply (c : Dev nD) (s : Fin 4) (e : Fin 24) (y : Fin 96) (hy : y.val = 24 * (C c).val + e.val) (n : Fin 768)
    (r : Fin 768) (hr : r.val = 24 * c.val + e.val) :
    sumV m ρ (cubP c s) (ix2 y n) = ∑ t : Fin 8, partV m ρ (pos (C c + s) (M c + t)) r n := by
  refine (sum_apply m ρ (cubP c s) (C c) e y hy n r ?_).trans (Finset.sum_congr rfl fun t _ => ?_)
  · rw [M_cubP, pos_CM, hr]
  · rw [memP, C_cubP, M_cubP]

/-- The result, as a sum over all devices. -/
theorem out_apply (c : Dev nD) (e : Fin 24) (n : Fin 768) (r : Fin 768) (hr : r.val = 24 * c.val + e.val) :
    outV m ρ c (ix2 e n) = ∑ d : Fin 32, partV m ρ d r n := by
  rw [← sum_pos (fun d => partV m ρ d r n) (C c) (M c), Fin.sum_univ_succ]
  refine (pay15_apply _ _ e n).trans (congrArg₂ (· + ·) ?_ (Finset.sum_congr rfl fun u _ => ?_))
  · refine (pay13_apply (sumV m ρ c) _ n).trans ?_
    have h := cube_apply m ρ c 0 e ⟨24 * (C c).val + e.val, by have := (C c).isLt; omega⟩ rfl n r hr
    rw [cubP_zero] at h
    exact h
  · refine (pay14_apply (sumV m ρ (cubP c ⟨1 + u.val, by have := u.isLt; omega⟩)) _ n).trans ?_
    have h := cube_apply m ρ c u.succ e ⟨24 * (C c).val + e.val, by have := (C c).isLt; omega⟩ rfl n r hr
    refine Eq.trans (congrArg₂ (fun d y => sumV m ρ (cubP c d) (ix2 y n)) (Fin.ext ?_) rfl) h
    show 1 + u.val = u.val + 1
    omega

/-! ## Against the reference -/

/-- Reading the window on the whole of `A`'s block gives the block, -/
theorem read0 (f : Vec Ideal S768x384 .f32) : (win0_0.blk (0 : Fin 1)).view.read (Elt Ideal) f = f := by
  funext x
  refine congrArg f (idx2_ext (a := 768) (b := 384) ?_ ?_)
  · show 0 * 768 + 1 * (x 0).val = _
    omega
  · show 0 * 384 + 1 * (x 1).val = _
    omega
/-- likewise on `B`'s -/
theorem read1 (f : Vec Ideal S384x768 .f32) : (win0_1.blk (0 : Fin 1)).view.read (Elt Ideal) f = f := by
  funext x
  refine congrArg f (idx2_ext (a := 384) (b := 768) ?_ ?_)
  · show 0 * 384 + 1 * (x 0).val = _
    omega
  · show 0 * 768 + 1 * (x 1).val = _
    omega
/-- and on the result's. -/
theorem read2 (f : Vec Ideal S24x768 .f32) : (win0_2.blk (0 : Fin 1)).view.read (Elt Ideal) f = f := by
  funext x
  refine congrArg f (idx2_ext (a := 24) (b := 768) ?_ ?_)
  · show 0 * 24 + 1 * (x 0).val = _
    omega
  · show 0 * 768 + 1 * (x 1).val = _
    omega

/-- The reference's product at an index. -/
theorem ref_apply (A : Vec Ideal ⟨2, ![768, 12288]⟩ .f32) (B : Vec Ideal ⟨2, ![12288, 768]⟩ .f32) (r n : Fin 768) :
    Host.dotGeneral (F := Ideal) (φ₁ := .f32) (φ₂ := .f32) Cert.ReferenceIdeal.dot_S768x12288_S12288x768_S768x768_1_0_0_1_n_n none A B (ix2 r n)
      = ∑ j : Fin 12288, A (ix2 r j) * B (ix2 j n) := by
  pointwise

/-- If every device holds its blocks of `A` and `B`, device `c`'s result is block `c` of the product. -/
theorem out_block (A : Vec Ideal ⟨2, ![768, 12288]⟩ .f32) (B : Vec Ideal ⟨2, ![12288, 768]⟩ .f32)
    (hA : ∀ c : Dev nD, m ((c : Thread nD τ).loc main_arg0) = Layout.block ⟨2, ![768, 384]⟩ ⟨2, ![768, 12288]⟩ 1 32 c A)
    (hB : ∀ c : Dev nD, m ((c : Thread nD τ).loc main_arg1) = Layout.block ⟨2, ![384, 768]⟩ ⟨2, ![12288, 768]⟩ 0 32 c B) (c : Dev nD) :
    outV m ρ c = Layout.block ⟨2, ![24, 768]⟩ ⟨2, ![768, 768]⟩ 0 32 c
      (Host.dotGeneral (F := Ideal) (φ₁ := .f32) (φ₂ := .f32) Cert.ReferenceIdeal.dot_S768x12288_S12288x768_S768x768_1_0_0_1_n_n none A B) := by
  funext i
  obtain ⟨e, n, rfl⟩ : ∃ (e : Fin 24) (n : Fin 768), i = ix2 e n := ⟨i 0, i 1, eq_ix2 i⟩
  have hc : c.val < 32 := c.isLt
  have hr : c.val * 24 + e.val < 768 := by omega
  have hR : (Layout.block ⟨2, ![24, 768]⟩ ⟨2, ![768, 768]⟩ 0 32 c
      (Host.dotGeneral (F := Ideal) (φ₁ := .f32) (φ₂ := .f32) Cert.ReferenceIdeal.dot_S768x12288_S12288x768_S768x768_1_0_0_1_n_n none A B)) (ix2 e n)
        = ∑ j : Fin 12288, A (ix2 ⟨c.val * 24 + e.val, hr⟩ j) * B (ix2 j n) := by
    rw [Layout.block_apply, ← ref_apply]
    exact congrArg _ (idx2_ext rfl rfl)
  refine (out_apply m ρ c e n ⟨c.val * 24 + e.val, hr⟩ (congrArg (· + e.val) (Nat.mul_comm c.val 24))).trans (Eq.trans ?_ hR.symm)
  refine Eq.trans (Finset.sum_congr rfl fun d _ => Finset.sum_congr rfl fun k _ => ?_)
    (sum_cols fun j => A (ix2 ⟨c.val * 24 + e.val, hr⟩ j) * B (ix2 j n))
  have ha : aV m ρ d (ix2 ⟨c.val * 24 + e.val, hr⟩ k) = A (ix2 ⟨c.val * 24 + e.val, hr⟩ ⟨d.val * 384 + k.val, by omega⟩) :=
    (congrFun ((read0 _).trans (hA d)) _).trans (congrArg A (idx2_ext rfl rfl))
  have hb : bV m ρ d (ix2 k n) = B (ix2 ⟨d.val * 384 + k.val, by omega⟩ n) :=
    (congrFun ((read1 _).trans (hB d)) _).trans (congrArg B (idx2_ext rfl rfl))
  rw [ha, hb]

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Over words no run gets stuck, the arguments keep their contents and all semaphores end at zero. -/
theorem quiet_kernel : Cert.quiescent_Kernel := fun m g _ =>
  (θ_run Cert.Kernel.defs _ _).mono (fun _ h => ⟨fun c => ⟨(h.1 c).1, (h.1 c).2.1⟩, h.2⟩)
    (Cert.KernelRun.run (F := Bits) m g)

/-- The same over the extended reals. -/
theorem quiet_ideal : Cert.quiescent_KernelIdeal := fun m g _ =>
  (θ_run Cert.KernelIdeal.defs _ _).mono (fun _ h => ⟨fun c => ⟨(h.1 c).1, (h.1 c).2.1⟩, h.2⟩)
    (Cert.KernelIdealRun.run (F := Ideal) m g)

/-- The reference keeps its arguments and has no semaphores. -/
theorem quiet_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Over the extended reals device `c` ends with block `c` of the reference's product. -/
theorem result : Cert.algebraic_KernelIdeal_ReferenceIdeal := fun m g m' g' _ hm =>
  ⟨_, (θ_run Cert.KernelIdeal.defs _ _).mono
      (fun _ h c => ⟨(Cert.KernelIdealRun.read2 _).symm.trans ((h.1 c).2.2.trans
          (Cert.KernelIdealRun.out_block m g _ _ (fun d => (hm d).1) (fun d => (hm d).2) c)), (h.1 c).1, (h.1 c).2.1⟩)
      (Cert.KernelIdealRun.run (F := Ideal) m g),
    (θ_run Cert.ReferenceIdeal.defs _ _).mono (fun _ h => h 0) (Cert.ReferenceIdeal.Value.run (F := Ideal) m' g')⟩

/-- All of them. -/
theorem claim : Cert.Claim := ⟨Cert.Kernel.Gen.facts, Cert.KernelIdeal.Gen.facts, Cert.ReferenceIdeal.Gen.facts,
  quiet_kernel, quiet_ideal, quiet_reference, trivial, result⟩

end Cert.Proof

end
